-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_offsets_within_one_pixel [hPre_offsets_within_one_pixel : Cert.Pre_offsets_within_one_pixel.Facts] (m : (ℓ : Loc Cert.KernelIdeal.nD Cert.KernelIdeal.τ Cert.KernelIdeal.sig) → Buf (Elt Ideal) ℓ) : Prop :=
  ∀ c : Dev Cert.KernelIdeal.nD,
    (Cert.Pre_offsets_within_one_pixel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_offsets_within_one_pixel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_offsets_within_one_pixel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_offsets_within_one_pixel [hPre_offsets_within_one_pixel : Cert.Pre_offsets_within_one_pixel.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_offsets_within_one_pixel.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_offsets_within_one_pixel.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_offsets_within_one_pixel.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_offsets_within_one_pixel [hKernelIdeal : Cert.KernelIdeal.Facts] [hPre_offsets_within_one_pixel : Cert.Pre_offsets_within_one_pixel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_offsets_within_one_pixel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_offsets_within_one_pixel [hReferenceIdeal : Cert.ReferenceIdeal.Facts] [hPre_offsets_within_one_pixel : Cert.Pre_offsets_within_one_pixel.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_offsets_within_one_pixel m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_offsets_within_one_pixel [hKernelIdeal : Cert.KernelIdeal.Facts] [hReferenceIdeal : Cert.ReferenceIdeal.Facts] [hPre_offsets_within_one_pixel : Cert.Pre_offsets_within_one_pixel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_offsets_within_one_pixel m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_offsets_within_one_pixel : Cert.Pre_offsets_within_one_pixel.Facts),
    quiescent_Kernel (hKernel := hKernel)
    ∧ quiescent_KernelIdeal (hKernelIdeal := hKernelIdeal)
    ∧ quiescent_KernelIdeal_pre_offsets_within_one_pixel (hKernelIdeal := hKernelIdeal) (hPre_offsets_within_one_pixel := hPre_offsets_within_one_pixel)
    ∧ quiescent_ReferenceIdeal (hReferenceIdeal := hReferenceIdeal)
    ∧ quiescent_ReferenceIdeal_pre_offsets_within_one_pixel (hReferenceIdeal := hReferenceIdeal) (hPre_offsets_within_one_pixel := hPre_offsets_within_one_pixel)
    ∧ preserves_Kernel_KernelIdeal
    ∧ algebraic_KernelIdeal_ReferenceIdeal_pre_offsets_within_one_pixel (hKernelIdeal := hKernelIdeal) (hReferenceIdeal := hReferenceIdeal) (hPre_offsets_within_one_pixel := hPre_offsets_within_one_pixel)
-- ==== Pre_offsets_within_one_pixel.lean ====
abbrev S2x64x384x384 : Shape := ⟨4, ![2, 64, 384, 384]⟩
abbrev S64x64 : Shape := ⟨2, ![64, 64]⟩
abbrev S64 : Shape := ⟨1, ![64]⟩
abbrev S64x1x3x3 : Shape := ⟨4, ![64, 1, 3, 3]⟩
abbrev S64x112 : Shape := ⟨2, ![64, 112]⟩
abbrev S112 : Shape := ⟨1, ![112]⟩
abbrev S2x384x384x64 : Shape := ⟨4, ![2, 384, 384, 64]⟩
abbrev S1x1x1x64 : Shape := ⟨4, ![1, 1, 1, 64]⟩
abbrev S_ : Shape := ⟨0, ![]⟩
abbrev S2x64x386x386 : Shape := ⟨4, ![2, 64, 386, 386]⟩
abbrev S1x64x3x3 : Shape := ⟨4, ![1, 64, 3, 3]⟩
abbrev S1x64x1x1 : Shape := ⟨4, ![1, 64, 1, 1]⟩
abbrev S2x384x384x112 : Shape := ⟨4, ![2, 384, 384, 112]⟩
abbrev S1x1x1x112 : Shape := ⟨4, ![1, 1, 1, 112]⟩
abbrev S2x384x384x108 : Shape := ⟨4, ![2, 384, 384, 108]⟩
abbrev S2x384x384x4x27 : Shape := ⟨5, ![2, 384, 384, 4, 27]⟩
abbrev S2x384x384x4x18 : Shape := ⟨5, ![2, 384, 384, 4, 18]⟩
abbrev S2x384x384x4x9 : Shape := ⟨5, ![2, 384, 384, 4, 9]⟩

class Facts : Prop where
  transposes_S2x64x384x384_S2x384x384x64_0_2_3_1 : S2x64x384x384.Transposes [0, 2, 3, 1] S2x384x384x64
  bcast_S64_S1x1x1x64_3 : S64.BroadcastsInDim S1x1x1x64 (![3] : Fin 1 → Fin S1x1x1x64.rank)
  bcast_S1x1x1x64_S2x384x384x64_0_1_2_3 : S1x1x1x64.BroadcastsInDim S2x384x384x64 (![0, 1, 2, 3] : Fin 4 → Fin S2x384x384x64.rank)
  pads_S2x64x384x384_S2x64x386x386_000_000_110_110 : S2x64x384x384.Pads (![0, 0, 1, 1] : Fin 4 → Nat) ![0, 0, 1, 1] ![0, 0, 0, 0] S2x64x386x386
  h_S_ : 0 < S_.numel
  shapeCasts_S64x1x3x3_S1x64x3x3 : S64x1x3x3.ShapeCasts S1x64x3x3
  bcast_S64_S1x64x1x1_1 : S64.BroadcastsInDim S1x64x1x1 (![1] : Fin 1 → Fin S1x64x1x1.rank)
  slices_S2x64x386x386_S2x64x384x384_0_0_0_0 : S2x64x386x386.Slices ![0, 0, 0, 0] S2x64x384x384
  slices_S1x64x3x3_S1x64x1x1_0_0_0_0 : S1x64x3x3.Slices ![0, 0, 0, 0] S1x64x1x1
  bcast_S1x64x1x1_S2x64x384x384_0_1_2_3 : S1x64x1x1.BroadcastsInDim S2x64x384x384 (![0, 1, 2, 3] : Fin 4 → Fin S2x64x384x384.rank)
  slices_S2x64x386x386_S2x64x384x384_0_0_0_1 : S2x64x386x386.Slices ![0, 0, 0, 1] S2x64x384x384
  slices_S1x64x3x3_S1x64x1x1_0_0_0_1 : S1x64x3x3.Slices ![0, 0, 0, 1] S1x64x1x1
  slices_S2x64x386x386_S2x64x384x384_0_0_0_2 : S2x64x386x386.Slices ![0, 0, 0, 2] S2x64x384x384
  slices_S1x64x3x3_S1x64x1x1_0_0_0_2 : S1x64x3x3.Slices ![0, 0, 0, 2] S1x64x1x1
  slices_S2x64x386x386_S2x64x384x384_0_0_1_0 : S2x64x386x386.Slices ![0, 0, 1, 0] S2x64x384x384
  slices_S1x64x3x3_S1x64x1x1_0_0_1_0 : S1x64x3x3.Slices ![0, 0, 1, 0] S1x64x1x1
  slices_S2x64x386x386_S2x64x384x384_0_0_1_1 : S2x64x386x386.Slices ![0, 0, 1, 1] S2x64x384x384
  slices_S1x64x3x3_S1x64x1x1_0_0_1_1 : S1x64x3x3.Slices ![0, 0, 1, 1] S1x64x1x1
  slices_S2x64x386x386_S2x64x384x384_0_0_1_2 : S2x64x386x386.Slices ![0, 0, 1, 2] S2x64x384x384
  slices_S1x64x3x3_S1x64x1x1_0_0_1_2 : S1x64x3x3.Slices ![0, 0, 1, 2] S1x64x1x1
  slices_S2x64x386x386_S2x64x384x384_0_0_2_0 : S2x64x386x386.Slices ![0, 0, 2, 0] S2x64x384x384
  slices_S1x64x3x3_S1x64x1x1_0_0_2_0 : S1x64x3x3.Slices ![0, 0, 2, 0] S1x64x1x1
  slices_S2x64x386x386_S2x64x384x384_0_0_2_1 : S2x64x386x386.Slices ![0, 0, 2, 1] S2x64x384x384
  slices_S1x64x3x3_S1x64x1x1_0_0_2_1 : S1x64x3x3.Slices ![0, 0, 2, 1] S1x64x1x1
  slices_S2x64x386x386_S2x64x384x384_0_0_2_2 : S2x64x386x386.Slices ![0, 0, 2, 2] S2x64x384x384
  slices_S1x64x3x3_S1x64x1x1_0_0_2_2 : S1x64x3x3.Slices ![0, 0, 2, 2] S1x64x1x1
  bcast_S112_S1x1x1x112_3 : S112.BroadcastsInDim S1x1x1x112 (![3] : Fin 1 → Fin S1x1x1x112.rank)
  bcast_S1x1x1x112_S2x384x384x112_0_1_2_3 : S1x1x1x112.BroadcastsInDim S2x384x384x112 (![0, 1, 2, 3] : Fin 4 → Fin S2x384x384x112.rank)
  slices_S2x384x384x112_S2x384x384x108_0_0_0_0 : S2x384x384x112.Slices ![0, 0, 0, 0] S2x384x384x108
  shapeCasts_S2x384x384x108_S2x384x384x4x27 : S2x384x384x108.ShapeCasts S2x384x384x4x27
  bcast_S_S2x384x384x64 : S_.BroadcastsInDim S2x384x384x64 (![] : Fin 0 → Fin S2x384x384x64.rank)
  slices_S2x384x384x4x27_S2x384x384x4x18_0_0_0_0_0 : S2x384x384x4x27.Slices ![0, 0, 0, 0, 0] S2x384x384x4x18
  bcast_S_S2x384x384x4x18 : S_.BroadcastsInDim S2x384x384x4x18 (![] : Fin 0 → Fin S2x384x384x4x18.rank)
  slices_S2x384x384x4x27_S2x384x384x4x9_0_0_0_0_18 : S2x384x384x4x27.Slices ![0, 0, 0, 0, 18] S2x384x384x4x9
  bcast_S_S2x384x384x4x9 : S_.BroadcastsInDim S2x384x384x4x9 (![] : Fin 0 → Fin S2x384x384x4x9.rank)
  dot_S2x384x384x64_S64x64_S2x384x384x64_3_0_012_1_n_n_wf : DotDims.WF S2x384x384x64 S64x64 S2x384x384x64 [3] [0] [0, 1, 2] [1] [] []
  dot_S2x384x384x64_S64x112_S2x384x384x112_3_0_012_1_n_n_wf : DotDims.WF S2x384x384x64 S64x112 S2x384x384x112 [3] [0] [0, 1, 2] [1] [] []

variable [Facts]

def dot_S2x384x384x64_S64x64_S2x384x384x64_3_0_012_1_n_n : DotDims S2x384x384x64 S64x64 S2x384x384x64 where
  lhsContracting := [3]
  rhsContracting := [0]
  lhsNonContracting := [0, 1, 2]
  rhsNonContracting := [1]
  lhsBatch := []
  rhsBatch := []
  wf := dot_S2x384x384x64_S64x64_S2x384x384x64_3_0_012_1_n_n_wf
def dot_S2x384x384x64_S64x112_S2x384x384x112_3_0_012_1_n_n : DotDims S2x384x384x64 S64x112 S2x384x384x112 where
  lhsContracting := [3]
  rhsContracting := [0]
  lhsNonContracting := [0, 1, 2]
  rhsNonContracting := [1]
  lhsBatch := []
  rhsBatch := []
  wf := dot_S2x384x384x64_S64x112_S2x384x384x112_3_0_012_1_n_n_wf
def fn_part3 {F : FTy → Type} [FloatOps F] (main_v63 : IVec S2x384x384x64 1) (main_v67 : IVec S2x384x384x4x18 1) (main_v68 : FVec F S2x384x384x4x9 .f32) : IVec S2x384x384x64 1 × IVec S2x384x384x4x18 1 × IVec S2x384x384x4x9 1 :=
  let main_v69 : FVec F S2x384x384x4x9 .f32 := Host.absf main_v68
  let main_cst_2 : FVec F S_ .f32 := constant S_ .f32 0x7F800000#32
  let main_v70 : FVec F S2x384x384x4x9 .f32 := broadcastInDim S2x384x384x4x9 ![] bcast_S_S2x384x384x4x9 main_cst_2
  let main_v71 : IVec S2x384x384x4x9 1 := cmpf .olt main_v69 main_v70
  (main_v63, main_v67, main_v71)

def fn_part2 {F : FTy → Type} [FloatOps F] (main_arg5 : FVec F S64x112 .f32) (main_arg6 : FVec F S112 .f32) (main_v4 : FVec F S2x384x384x64 .f32) (main_v5 : FVec F S2x64x386x386 .f32) (main_v6 : FVec F S1x64x3x3 .f32) (main_v43 : FVec F S2x64x384x384 .f32) (main_v44 : FVec F S2x64x384x384 .f32) (main_v46 : FVec F S2x64x384x384 .f32) : IVec S2x384x384x64 1 × IVec S2x384x384x4x18 1 × IVec S2x384x384x4x9 1 :=
  let main_v47 : FVec F S2x64x384x384 .f32 := mulf main_v44 main_v46
  let main_v48 : FVec F S2x64x384x384 .f32 := addf main_v43 main_v47
  let main_v49 : FVec F S2x64x384x384 .f32 := (extractStridedSlice S2x64x384x384 ![0, 0, 2, 2] · slices_S2x64x386x386_S2x64x384x384_0_0_2_2) main_v5
  let main_v50 : FVec F S1x64x1x1 .f32 := (extractStridedSlice S1x64x1x1 ![0, 0, 2, 2] · slices_S1x64x3x3_S1x64x1x1_0_0_2_2) main_v6
  let main_v51 : FVec F S2x64x384x384 .f32 := broadcastInDim S2x64x384x384 ![0, 1, 2, 3] bcast_S1x64x1x1_S2x64x384x384_0_1_2_3 main_v50
  let main_v52 : FVec F S2x64x384x384 .f32 := mulf main_v49 main_v51
  let main_v53 : FVec F S2x64x384x384 .f32 := addf main_v48 main_v52
  let main_v54 : FVec F S2x384x384x64 .f32 := (transpose S2x384x384x64 [0, 2, 3, 1] · transposes_S2x64x384x384_S2x384x384x64_0_2_3_1) main_v53
  let main_v55 : FVec F S2x384x384x112 .f32 := (fun l r => Host.dotGeneral dot_S2x384x384x64_S64x112_S2x384x384x112_3_0_012_1_n_n none l r) main_v54 main_arg5
  let main_v56 : FVec F S1x1x1x112 .f32 := broadcastInDim S1x1x1x112 ![3] bcast_S112_S1x1x1x112_3 main_arg6
  let main_v57 : FVec F S2x384x384x112 .f32 := broadcastInDim S2x384x384x112 ![0, 1, 2, 3] bcast_S1x1x1x112_S2x384x384x112_0_1_2_3 main_v56
  let main_v58 : FVec F S2x384x384x112 .f32 := addf main_v55 main_v57
  let main_v59 : FVec F S2x384x384x108 .f32 := (extractStridedSlice S2x384x384x108 ![0, 0, 0, 0] · slices_S2x384x384x112_S2x384x384x108_0_0_0_0) main_v58
  let main_v60 : FVec F S2x384x384x4x27 .f32 := shapeCast S2x384x384x4x27 main_v59 shapeCasts_S2x384x384x108_S2x384x384x4x27
  let main_v61 : FVec F S2x384x384x64 .f32 := Host.absf main_v4
  let main_cst_0 : FVec F S_ .f32 := constant S_ .f32 0x7F800000#32
  let main_v62 : FVec F S2x384x384x64 .f32 := broadcastInDim S2x384x384x64 ![] bcast_S_S2x384x384x64 main_cst_0
  let main_v63 : IVec S2x384x384x64 1 := cmpf .olt main_v61 main_v62
  let main_v64 : FVec F S2x384x384x4x18 .f32 := (extractStridedSlice S2x384x384x4x18 ![0, 0, 0, 0, 0] · slices_S2x384x384x4x27_S2x384x384x4x18_0_0_0_0_0) main_v60
  let main_v65 : FVec F S2x384x384x4x18 .f32 := Host.absf main_v64
  let main_cst_1 : FVec F S_ .f32 := constant S_ .f32 0x3F800000#32
  let main_v66 : FVec F S2x384x384x4x18 .f32 := broadcastInDim S2x384x384x4x18 ![] bcast_S_S2x384x384x4x18 main_cst_1
  let main_v67 : IVec S2x384x384x4x18 1 := cmpf .ole main_v65 main_v66
  let main_v68 : FVec F S2x384x384x4x9 .f32 := (extractStridedSlice S2x384x384x4x9 ![0, 0, 0, 0, 18] · slices_S2x384x384x4x27_S2x384x384x4x9_0_0_0_0_18) main_v60
  fn_part3 (F := F) main_v63 main_v67 main_v68

def fn_part1 {F : FTy → Type} [FloatOps F] (main_arg5 : FVec F S64x112 .f32) (main_arg6 : FVec F S112 .f32) (main_v4 : FVec F S2x384x384x64 .f32) (main_v5 : FVec F S2x64x386x386 .f32) (main_v6 : FVec F S1x64x3x3 .f32) (main_v18 : FVec F S2x64x384x384 .f32) (main_v22 : FVec F S2x64x384x384 .f32) : IVec S2x384x384x64 1 × IVec S2x384x384x4x18 1 × IVec S2x384x384x4x9 1 :=
  let main_v23 : FVec F S2x64x384x384 .f32 := addf main_v18 main_v22
  let main_v24 : FVec F S2x64x384x384 .f32 := (extractStridedSlice S2x64x384x384 ![0, 0, 1, 0] · slices_S2x64x386x386_S2x64x384x384_0_0_1_0) main_v5
  let main_v25 : FVec F S1x64x1x1 .f32 := (extractStridedSlice S1x64x1x1 ![0, 0, 1, 0] · slices_S1x64x3x3_S1x64x1x1_0_0_1_0) main_v6
  let main_v26 : FVec F S2x64x384x384 .f32 := broadcastInDim S2x64x384x384 ![0, 1, 2, 3] bcast_S1x64x1x1_S2x64x384x384_0_1_2_3 main_v25
  let main_v27 : FVec F S2x64x384x384 .f32 := mulf main_v24 main_v26
  let main_v28 : FVec F S2x64x384x384 .f32 := addf main_v23 main_v27
  let main_v29 : FVec F S2x64x384x384 .f32 := (extractStridedSlice S2x64x384x384 ![0, 0, 1, 1] · slices_S2x64x386x386_S2x64x384x384_0_0_1_1) main_v5
  let main_v30 : FVec F S1x64x1x1 .f32 := (extractStridedSlice S1x64x1x1 ![0, 0, 1, 1] · slices_S1x64x3x3_S1x64x1x1_0_0_1_1) main_v6
  let main_v31 : FVec F S2x64x384x384 .f32 := broadcastInDim S2x64x384x384 ![0, 1, 2, 3] bcast_S1x64x1x1_S2x64x384x384_0_1_2_3 main_v30
  let main_v32 : FVec F S2x64x384x384 .f32 := mulf main_v29 main_v31
  let main_v33 : FVec F S2x64x384x384 .f32 := addf main_v28 main_v32
  let main_v34 : FVec F S2x64x384x384 .f32 := (extractStridedSlice S2x64x384x384 ![0, 0, 1, 2] · slices_S2x64x386x386_S2x64x384x384_0_0_1_2) main_v5
  let main_v35 : FVec F S1x64x1x1 .f32 := (extractStridedSlice S1x64x1x1 ![0, 0, 1, 2] · slices_S1x64x3x3_S1x64x1x1_0_0_1_2) main_v6
  let main_v36 : FVec F S2x64x384x384 .f32 := broadcastInDim S2x64x384x384 ![0, 1, 2, 3] bcast_S1x64x1x1_S2x64x384x384_0_1_2_3 main_v35
  let main_v37 : FVec F S2x64x384x384 .f32 := mulf main_v34 main_v36
  let main_v38 : FVec F S2x64x384x384 .f32 := addf main_v33 main_v37
  let main_v39 : FVec F S2x64x384x384 .f32 := (extractStridedSlice S2x64x384x384 ![0, 0, 2, 0] · slices_S2x64x386x386_S2x64x384x384_0_0_2_0) main_v5
  let main_v40 : FVec F S1x64x1x1 .f32 := (extractStridedSlice S1x64x1x1 ![0, 0, 2, 0] · slices_S1x64x3x3_S1x64x1x1_0_0_2_0) main_v6
  let main_v41 : FVec F S2x64x384x384 .f32 := broadcastInDim S2x64x384x384 ![0, 1, 2, 3] bcast_S1x64x1x1_S2x64x384x384_0_1_2_3 main_v40
  let main_v42 : FVec F S2x64x384x384 .f32 := mulf main_v39 main_v41
  let main_v43 : FVec F S2x64x384x384 .f32 := addf main_v38 main_v42
  let main_v44 : FVec F S2x64x384x384 .f32 := (extractStridedSlice S2x64x384x384 ![0, 0, 2, 1] · slices_S2x64x386x386_S2x64x384x384_0_0_2_1) main_v5
  let main_v45 : FVec F S1x64x1x1 .f32 := (extractStridedSlice S1x64x1x1 ![0, 0, 2, 1] · slices_S1x64x3x3_S1x64x1x1_0_0_2_1) main_v6
  let main_v46 : FVec F S2x64x384x384 .f32 := broadcastInDim S2x64x384x384 ![0, 1, 2, 3] bcast_S1x64x1x1_S2x64x384x384_0_1_2_3 main_v45
  fn_part2 (F := F) main_arg5 main_arg6 main_v4 main_v5 main_v6 main_v43 main_v44 main_v46

def fn {F : FTy → Type} [FloatOps F] (main_arg0 : FVec F S2x64x384x384 .f32) (main_arg1 : FVec F S64x64 .f32) (main_arg2 : FVec F S64 .f32) (main_arg3 : FVec F S64x1x3x3 .f32) (main_arg4 : FVec F S64 .f32) (main_arg5 : FVec F S64x112 .f32) (main_arg6 : FVec F S112 .f32) (main_arg7 : FVec F S64x64 .f32) : IVec S2x384x384x64 1 × IVec S2x384x384x4x18 1 × IVec S2x384x384x4x9 1 :=
  let main_v0 : FVec F S2x384x384x64 .f32 := (transpose S2x384x384x64 [0, 2, 3, 1] · transposes_S2x64x384x384_S2x384x384x64_0_2_3_1) main_arg0
  let main_v1 : FVec F S2x384x384x64 .f32 := (fun l r => Host.dotGeneral dot_S2x384x384x64_S64x64_S2x384x384x64_3_0_012_1_n_n none l r) main_v0 main_arg1
  let main_v2 : FVec F S1x1x1x64 .f32 := broadcastInDim S1x1x1x64 ![3] bcast_S64_S1x1x1x64_3 main_arg2
  let main_v3 : FVec F S2x384x384x64 .f32 := broadcastInDim S2x384x384x64 ![0, 1, 2, 3] bcast_S1x1x1x64_S2x384x384x64_0_1_2_3 main_v2
  let main_v4 : FVec F S2x384x384x64 .f32 := addf main_v1 main_v3
  let main_cst : FVec F S_ .f32 := constant S_ .f32 0x00000000#32
  let main_v5 : FVec F S2x64x386x386 .f32 := (fun x v => pad S2x64x386x386 ![0, 0, 1, 1] ![0, 0, 1, 1] ![0, 0, 0, 0] x v pads_S2x64x384x384_S2x64x386x386_000_000_110_110 h_S_) main_arg0 main_cst
  let main_v6 : FVec F S1x64x3x3 .f32 := shapeCast S1x64x3x3 main_arg3 shapeCasts_S64x1x3x3_S1x64x3x3
  let main_v7 : FVec F S1x64x1x1 .f32 := broadcastInDim S1x64x1x1 ![1] bcast_S64_S1x64x1x1_1 main_arg4
  let main_v8 : FVec F S2x64x384x384 .f32 := (extractStridedSlice S2x64x384x384 ![0, 0, 0, 0] · slices_S2x64x386x386_S2x64x384x384_0_0_0_0) main_v5
  let main_v9 : FVec F S1x64x1x1 .f32 := (extractStridedSlice S1x64x1x1 ![0, 0, 0, 0] · slices_S1x64x3x3_S1x64x1x1_0_0_0_0) main_v6
  let main_v10 : FVec F S2x64x384x384 .f32 := broadcastInDim S2x64x384x384 ![0, 1, 2, 3] bcast_S1x64x1x1_S2x64x384x384_0_1_2_3 main_v9
  let main_v11 : FVec F S2x64x384x384 .f32 := mulf main_v8 main_v10
  let main_v12 : FVec F S2x64x384x384 .f32 := broadcastInDim S2x64x384x384 ![0, 1, 2, 3] bcast_S1x64x1x1_S2x64x384x384_0_1_2_3 main_v7
  let main_v13 : FVec F S2x64x384x384 .f32 := addf main_v12 main_v11
  let main_v14 : FVec F S2x64x384x384 .f32 := (extractStridedSlice S2x64x384x384 ![0, 0, 0, 1] · slices_S2x64x386x386_S2x64x384x384_0_0_0_1) main_v5
  let main_v15 : FVec F S1x64x1x1 .f32 := (extractStridedSlice S1x64x1x1 ![0, 0, 0, 1] · slices_S1x64x3x3_S1x64x1x1_0_0_0_1) main_v6
  let main_v16 : FVec F S2x64x384x384 .f32 := broadcastInDim S2x64x384x384 ![0, 1, 2, 3] bcast_S1x64x1x1_S2x64x384x384_0_1_2_3 main_v15
  let main_v17 : FVec F S2x64x384x384 .f32 := mulf main_v14 main_v16
  let main_v18 : FVec F S2x64x384x384 .f32 := addf main_v13 main_v17
  let main_v19 : FVec F S2x64x384x384 .f32 := (extractStridedSlice S2x64x384x384 ![0, 0, 0, 2] · slices_S2x64x386x386_S2x64x384x384_0_0_0_2) main_v5
  let main_v20 : FVec F S1x64x1x1 .f32 := (extractStridedSlice S1x64x1x1 ![0, 0, 0, 2] · slices_S1x64x3x3_S1x64x1x1_0_0_0_2) main_v6
  let main_v21 : FVec F S2x64x384x384 .f32 := broadcastInDim S2x64x384x384 ![0, 1, 2, 3] bcast_S1x64x1x1_S2x64x384x384_0_1_2_3 main_v20
  let main_v22 : FVec F S2x64x384x384 .f32 := mulf main_v19 main_v21
  fn_part1 (F := F) main_arg5 main_arg6 main_v4 main_v5 main_v6 main_v18 main_v22
-- ==== Kernel.lean ====
abbrev S2x64x384x384 : Shape := ⟨4, ![2, 64, 384, 384]⟩
abbrev S64x64 : Shape := ⟨2, ![64, 64]⟩
abbrev S64 : Shape := ⟨1, ![64]⟩
abbrev S64x1x3x3 : Shape := ⟨4, ![64, 1, 3, 3]⟩
abbrev S64x112 : Shape := ⟨2, ![64, 112]⟩
abbrev S112 : Shape := ⟨1, ![112]⟩
abbrev S64x9 : Shape := ⟨2, ![64, 9]⟩
abbrev S9x64 : Shape := ⟨2, ![9, 64]⟩
abbrev S9x64x1x1 : Shape := ⟨4, ![9, 64, 1, 1]⟩
abbrev S64x1x1 : Shape := ⟨3, ![64, 1, 1]⟩
abbrev S112x1x1 : Shape := ⟨3, ![112, 1, 1]⟩
abbrev S1x64x8x384 : Shape := ⟨4, ![1, 64, 8, 384]⟩
abbrev S1x64x16x384 : Shape := ⟨4, ![1, 64, 16, 384]⟩
abbrev S1x64x2x384 : Shape := ⟨4, ![1, 64, 2, 384]⟩
abbrev S64x2x384 : Shape := ⟨3, ![64, 2, 384]⟩
abbrev S64x16x384 : Shape := ⟨3, ![64, 16, 384]⟩
abbrev S64x20x384 : Shape := ⟨3, ![64, 20, 384]⟩
abbrev S64x20x2 : Shape := ⟨3, ![64, 20, 2]⟩
abbrev S64x20x388 : Shape := ⟨3, ![64, 20, 388]⟩
abbrev S64x16x388 : Shape := ⟨3, ![64, 16, 388]⟩
abbrev S1x64x1x1 : Shape := ⟨4, ![1, 64, 1, 1]⟩
abbrev S112x16x384 : Shape := ⟨3, ![112, 16, 384]⟩
abbrev S1x20x1 : Shape := ⟨3, ![1, 20, 1]⟩
abbrev S1x16x384 : Shape := ⟨3, ![1, 16, 384]⟩
abbrev S16x384 : Shape := ⟨2, ![16, 384]⟩
abbrev S16x20x388 : Shape := ⟨3, ![16, 20, 388]⟩
abbrev S16x16x388 : Shape := ⟨3, ![16, 16, 388]⟩
abbrev S16x16x384 : Shape := ⟨3, ![16, 16, 384]⟩

abbrev nBuf : Space → Nat
  | .hbm => 15
  | .vmem => 15
  | .smem => 0
  | _ => 0

abbrev bufTy : (tb : Table) → Fin (tcTables nBuf tb) → BufTy
  | .hbm, ⟨0, _⟩ => ⟨S2x64x384x384, .f32⟩
  | .hbm, ⟨1, _⟩ => ⟨S64x64, .f32⟩
  | .hbm, ⟨2, _⟩ => ⟨S64, .f32⟩
  | .hbm, ⟨3, _⟩ => ⟨S64x1x3x3, .f32⟩
  | .hbm, ⟨4, _⟩ => ⟨S64, .f32⟩
  | .hbm, ⟨5, _⟩ => ⟨S64x112, .f32⟩
  | .hbm, ⟨6, _⟩ => ⟨S112, .f32⟩
  | .hbm, ⟨7, _⟩ => ⟨S64x64, .f32⟩
  | .hbm, ⟨8, _⟩ => ⟨S64x9, .f32⟩
  | .hbm, ⟨9, _⟩ => ⟨S9x64, .f32⟩
  | .hbm, ⟨10, _⟩ => ⟨S9x64x1x1, .f32⟩
  | .hbm, ⟨11, _⟩ => ⟨S64x1x1, .f32⟩
  | .hbm, ⟨12, _⟩ => ⟨S64x1x1, .f32⟩
  | .hbm, ⟨13, _⟩ => ⟨S112x1x1, .f32⟩
  | .hbm, ⟨14, _⟩ => ⟨S2x64x384x384, .f32⟩
  | .local _ .vmem, ⟨0, _⟩ => ⟨S1x64x8x384, .f32⟩
  | .local _ .vmem, ⟨1, _⟩ => ⟨S1x64x8x384, .f32⟩
  | .local _ .vmem, ⟨2, _⟩ => ⟨S1x64x16x384, .f32⟩
  | .local _ .vmem, ⟨3, _⟩ => ⟨S1x64x16x384, .f32⟩
  | .local _ .vmem, ⟨4, _⟩ => ⟨S1x64x8x384, .f32⟩
  | .local _ .vmem, ⟨5, _⟩ => ⟨S1x64x8x384, .f32⟩
  | .local _ .vmem, ⟨6, _⟩ => ⟨S64x64, .f32⟩
  | .local _ .vmem, ⟨7, _⟩ => ⟨S64x1x1, .f32⟩
  | .local _ .vmem, ⟨8, _⟩ => ⟨S9x64x1x1, .f32⟩
  | .local _ .vmem, ⟨9, _⟩ => ⟨S64x1x1, .f32⟩
  | .local _ .vmem, ⟨10, _⟩ => ⟨S64x112, .f32⟩
  | .local _ .vmem, ⟨11, _⟩ => ⟨S112x1x1, .f32⟩
  | .local _ .vmem, ⟨12, _⟩ => ⟨S64x64, .f32⟩
  | .local _ .vmem, ⟨13, _⟩ => ⟨S1x64x16x384, .f32⟩
  | .local _ .vmem, ⟨14, _⟩ => ⟨S1x64x16x384, .f32⟩
  | _, _ => ⟨S2x64x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 24], ![false, false]⟩

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let c2_i32_0 : BitVec 32 := 2#32
  let v1 : BitVec 32 := Scalar.addi v0 c2_i32_0
  let c47_i32 : BitVec 32 := 47#32
  let v2 : BitVec 32 := Scalar.minsi v1 c47_i32
  let c0_i32 : BitVec 32 := 0#32
  let c0_i32_1 : BitVec 32 := 0#32
  let c0_i32_2 : BitVec 32 := 0#32
  ![arg0.toNat, c0_i32.toNat, v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x8x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x16x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x8x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S9x64x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S64x112 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S112x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x64x16x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S2x64x384x384 : Shape := ⟨4, ![2, 64, 384, 384]⟩
abbrev S64x64 : Shape := ⟨2, ![64, 64]⟩
abbrev S64 : Shape := ⟨1, ![64]⟩
abbrev S64x1x3x3 : Shape := ⟨4, ![64, 1, 3, 3]⟩
abbrev S64x112 : Shape := ⟨2, ![64, 112]⟩
abbrev S112 : Shape := ⟨1, ![112]⟩
abbrev S2x384x384x64 : Shape := ⟨4, ![2, 384, 384, 64]⟩
abbrev S1x1x1x64 : Shape := ⟨4, ![1, 1, 1, 64]⟩
abbrev S2x384x384x4x16 : Shape := ⟨5, ![2, 384, 384, 4, 16]⟩
abbrev S_ : Shape := ⟨0, ![]⟩
abbrev S2x64x386x386 : Shape := ⟨4, ![2, 64, 386, 386]⟩
abbrev S1x64x3x3 : Shape := ⟨4, ![1, 64, 3, 3]⟩
abbrev S1x64x1x1 : Shape := ⟨4, ![1, 64, 1, 1]⟩
abbrev S2x384x384x112 : Shape := ⟨4, ![2, 384, 384, 112]⟩
abbrev S1x1x1x112 : Shape := ⟨4, ![1, 1, 1, 112]⟩
abbrev S2x384x384x108 : Shape := ⟨4, ![2, 384, 384, 108]⟩
abbrev S2x384x384x4x27 : Shape := ⟨5, ![2, 384, 384, 4, 27]⟩
abbrev S2x384x384x4x18 : Shape := ⟨5, ![2, 384, 384, 4, 18]⟩
abbrev S2x384x384x4x9x2 : Shape := ⟨6, ![2, 384, 384, 4, 9, 2]⟩
abbrev S2x384x384x4x9 : Shape := ⟨5, ![2, 384, 384, 4, 9]⟩
abbrev S384 : Shape := ⟨1, ![384]⟩
abbrev S1x1x384x1x1 : Shape := ⟨5, ![1, 1, 384, 1, 1]⟩
abbrev S1x384x1x1x1 : Shape := ⟨5, ![1, 384, 1, 1, 1]⟩
abbrev S3x3 : Shape := ⟨2, ![3, 3]⟩
abbrev S9 : Shape := ⟨1, ![9]⟩
abbrev S2x384x384x4x9x1 : Shape := ⟨6, ![2, 384, 384, 4, 9, 1]⟩
abbrev S1x1x1x1x9 : Shape := ⟨5, ![1, 1, 1, 1, 9]⟩
abbrev S2x384x384x4x9x4 : Shape := ⟨6, ![2, 384, 384, 4, 9, 4]⟩
abbrev S2x384x384x4x9x16 : Shape := ⟨6, ![2, 384, 384, 4, 9, 16]⟩

abbrev nBuf : Space → Nat
  | .hbm => 239
  | .vmem => 0
  | .smem => 0
  | _ => 0

abbrev hbmTy0_0 (i : Nat) : BufTy := match i % 128 with
  | 0 => ⟨S2x64x384x384, .f32⟩
  | 1 => ⟨S64x64, .f32⟩
  | 2 => ⟨S64, .f32⟩
  | 3 => ⟨S64x1x3x3, .f32⟩
  | 4 => ⟨S64, .f32⟩
  | 5 => ⟨S64x112, .f32⟩
  | 6 => ⟨S112, .f32⟩
  | 7 => ⟨S64x64, .f32⟩
  | 8 => ⟨S2x384x384x64, .f32⟩
  | 9 => ⟨S2x384x384x64, .f32⟩
  | 10 => ⟨S1x1x1x64, .f32⟩
  | 11 => ⟨S2x384x384x64, .f32⟩
  | 12 => ⟨S2x384x384x64, .f32⟩
  | 13 => ⟨S2x384x384x4x16, .f32⟩
  | 14 => ⟨S_, .f32⟩
  | 15 => ⟨S2x64x386x386, .f32⟩
  | 16 => ⟨S1x64x3x3, .f32⟩
  | 17 => ⟨S1x64x1x1, .f32⟩
  | 18 => ⟨S2x64x384x384, .f32⟩
  | 19 => ⟨S1x64x1x1, .f32⟩
  | 20 => ⟨S2x64x384x384, .f32⟩
  | 21 => ⟨S2x64x384x384, .f32⟩
  | 22 => ⟨S2x64x384x384, .f32⟩
  | 23 => ⟨S2x64x384x384, .f32⟩
  | 24 => ⟨S2x64x384x384, .f32⟩
  | 25 => ⟨S1x64x1x1, .f32⟩
  | 26 => ⟨S2x64x384x384, .f32⟩
  | 27 => ⟨S2x64x384x384, .f32⟩
  | 28 => ⟨S2x64x384x384, .f32⟩
  | 29 => ⟨S2x64x384x384, .f32⟩
  | 30 => ⟨S1x64x1x1, .f32⟩
  | 31 => ⟨S2x64x384x384, .f32⟩
  | 32 => ⟨S2x64x384x384, .f32⟩
  | 33 => ⟨S2x64x384x384, .f32⟩
  | 34 => ⟨S2x64x384x384, .f32⟩
  | 35 => ⟨S1x64x1x1, .f32⟩
  | 36 => ⟨S2x64x384x384, .f32⟩
  | 37 => ⟨S2x64x384x384, .f32⟩
  | 38 => ⟨S2x64x384x384, .f32⟩
  | 39 => ⟨S2x64x384x384, .f32⟩
  | 40 => ⟨S1x64x1x1, .f32⟩
  | 41 => ⟨S2x64x384x384, .f32⟩
  | 42 => ⟨S2x64x384x384, .f32⟩
  | 43 => ⟨S2x64x384x384, .f32⟩
  | 44 => ⟨S2x64x384x384, .f32⟩
  | 45 => ⟨S1x64x1x1, .f32⟩
  | 46 => ⟨S2x64x384x384, .f32⟩
  | 47 => ⟨S2x64x384x384, .f32⟩
  | 48 => ⟨S2x64x384x384, .f32⟩
  | 49 => ⟨S2x64x384x384, .f32⟩
  | 50 => ⟨S1x64x1x1, .f32⟩
  | 51 => ⟨S2x64x384x384, .f32⟩
  | 52 => ⟨S2x64x384x384, .f32⟩
  | 53 => ⟨S2x64x384x384, .f32⟩
  | 54 => ⟨S2x64x384x384, .f32⟩
  | 55 => ⟨S1x64x1x1, .f32⟩
  | 56 => ⟨S2x64x384x384, .f32⟩
  | 57 => ⟨S2x64x384x384, .f32⟩
  | 58 => ⟨S2x64x384x384, .f32⟩
  | 59 => ⟨S2x64x384x384, .f32⟩
  | 60 => ⟨S1x64x1x1, .f32⟩
  | 61 => ⟨S2x64x384x384, .f32⟩
  | 62 => ⟨S2x64x384x384, .f32⟩
  | 63 => ⟨S2x64x384x384, .f32⟩
  | 64 => ⟨S2x384x384x64, .f32⟩
  | 65 => ⟨S2x384x384x112, .f32⟩
  | 66 => ⟨S1x1x1x112, .f32⟩
  | 67 => ⟨S2x384x384x112, .f32⟩
  | 68 => ⟨S2x384x384x112, .f32⟩
  | 69 => ⟨S2x384x384x108, .f32⟩
  | 70 => ⟨S2x384x384x4x27, .f32⟩
  | 71 => ⟨S2x384x384x4x18, .f32⟩
  | 72 => ⟨S2x384x384x4x9x2, .f32⟩
  | 73 => ⟨S2x384x384x4x9, .f32⟩
  | 74 => ⟨S384, .f32⟩
  | 75 => ⟨S1x1x384x1x1, .f32⟩
  | 76 => ⟨S384, .f32⟩
  | 77 => ⟨S1x384x1x1x1, .f32⟩
  | 78 => ⟨S3x3, .f32⟩
  | 79 => ⟨S9, .f32⟩
  | 80 => ⟨S_, .f32⟩
  | 81 => ⟨S9, .f32⟩
  | 82 => ⟨S9, .f32⟩
  | 83 => ⟨S3x3, .f32⟩
  | 84 => ⟨S9, .f32⟩
  | 85 => ⟨S_, .f32⟩
  | 86 => ⟨S9, .f32⟩
  | 87 => ⟨S9, .f32⟩
  | 88 => ⟨S2x384x384x4x9x1, .f32⟩
  | 89 => ⟨S2x384x384x4x9, .f32⟩
  | 90 => ⟨S1x1x1x1x9, .f32⟩
  | 91 => ⟨S2x384x384x4x9, .f32⟩
  | 92 => ⟨S2x384x384x4x9, .f32⟩
  | 93 => ⟨S_, .f32⟩
  | 94 => ⟨S2x384x384x4x9, .f32⟩
  | 95 => ⟨S2x384x384x4x9, .f32⟩
  | 96 => ⟨S2x384x384x4x9, .f32⟩
  | 97 => ⟨S2x384x384x4x9, .f32⟩
  | 98 => ⟨S2x384x384x4x9x1, .f32⟩
  | 99 => ⟨S2x384x384x4x9, .f32⟩
  | 100 => ⟨S1x1x1x1x9, .f32⟩
  | 101 => ⟨S2x384x384x4x9, .f32⟩
  | 102 => ⟨S2x384x384x4x9, .f32⟩
  | 103 => ⟨S_, .f32⟩
  | 104 => ⟨S2x384x384x4x9, .f32⟩
  | 105 => ⟨S2x384x384x4x9, .f32⟩
  | 106 => ⟨S2x384x384x4x9, .f32⟩
  | 107 => ⟨S2x384x384x4x9, .f32⟩
  | 108 => ⟨S2x384x384x4x9, .i32⟩
  | 109 => ⟨S2x384x384x4x9, .i32⟩
  | 110 => ⟨S2x384x384x4x9, .f32⟩
  | 111 => ⟨S2x384x384x4x9, .f32⟩
  | 112 => ⟨S2x384x384x4x9, .i32⟩
  | 113 => ⟨S_, .f32⟩
  | 114 => ⟨S2x384x384x4x9, .f32⟩
  | 115 => ⟨S2x384x384x4x9, .f32⟩
  | 116 => ⟨S_, .i32⟩
  | 117 => ⟨S2x384x384x4x9, .i32⟩
  | 118 => ⟨S2x384x384x4x9, .i32⟩
  | 119 => ⟨S_, .i32⟩
  | 120 => ⟨S2x384x384x4x9, .i32⟩
  | 121 => ⟨S2x384x384x4x9, .i32⟩
  | 122 => ⟨S_, .i32⟩
  | 123 => ⟨S2x384x384x4x9, .i32⟩
  | 124 => ⟨S2x384x384x4x9, .i32⟩
  | 125 => ⟨S_, .i32⟩
  | 126 => ⟨S2x384x384x4x9, .i32⟩
  | 127 => ⟨S2x384x384x4x9, .i1⟩
  | _ => ⟨S2x64x384x384, .f32⟩

abbrev hbmTy0_1 (i : Nat) : BufTy := match i % 128 with
  | 0 => ⟨S_, .i32⟩
  | 1 => ⟨S2x384x384x4x9, .i32⟩
  | 2 => ⟨S2x384x384x4x9, .i1⟩
  | 3 => ⟨S2x384x384x4x9, .i1⟩
  | 4 => ⟨S2x384x384x4x9, .f32⟩
  | 5 => ⟨S2x384x384x4x9, .f32⟩
  | 6 => ⟨S_, .i32⟩
  | 7 => ⟨S2x384x384x4x9, .i32⟩
  | 8 => ⟨S2x384x384x4x9, .i32⟩
  | 9 => ⟨S_, .i32⟩
  | 10 => ⟨S2x384x384x4x9, .i32⟩
  | 11 => ⟨S2x384x384x4x9, .i32⟩
  | 12 => ⟨S_, .i32⟩
  | 13 => ⟨S2x384x384x4x9, .i32⟩
  | 14 => ⟨S2x384x384x4x9, .i1⟩
  | 15 => ⟨S_, .i32⟩
  | 16 => ⟨S2x384x384x4x9, .i32⟩
  | 17 => ⟨S2x384x384x4x9, .i1⟩
  | 18 => ⟨S2x384x384x4x9, .i1⟩
  | 19 => ⟨S2x384x384x4x9, .f32⟩
  | 20 => ⟨S2x384x384x4x9, .f32⟩
  | 21 => ⟨S2x384x384x4x9, .f32⟩
  | 22 => ⟨S2x384x384x4x9, .f32⟩
  | 23 => ⟨S2x384x384x4x9, .i32⟩
  | 24 => ⟨S_, .f32⟩
  | 25 => ⟨S2x384x384x4x9, .f32⟩
  | 26 => ⟨S2x384x384x4x9, .f32⟩
  | 27 => ⟨S_, .i32⟩
  | 28 => ⟨S2x384x384x4x9, .i32⟩
  | 29 => ⟨S2x384x384x4x9, .i32⟩
  | 30 => ⟨S_, .i32⟩
  | 31 => ⟨S2x384x384x4x9, .i32⟩
  | 32 => ⟨S2x384x384x4x9, .i32⟩
  | 33 => ⟨S_, .i32⟩
  | 34 => ⟨S2x384x384x4x9, .i32⟩
  | 35 => ⟨S2x384x384x4x9, .i32⟩
  | 36 => ⟨S_, .i32⟩
  | 37 => ⟨S2x384x384x4x9, .i32⟩
  | 38 => ⟨S2x384x384x4x9, .i1⟩
  | 39 => ⟨S_, .i32⟩
  | 40 => ⟨S2x384x384x4x9, .i32⟩
  | 41 => ⟨S2x384x384x4x9, .i1⟩
  | 42 => ⟨S2x384x384x4x9, .i1⟩
  | 43 => ⟨S2x384x384x4x9, .f32⟩
  | 44 => ⟨S2x384x384x4x9, .f32⟩
  | 45 => ⟨S_, .i32⟩
  | 46 => ⟨S2x384x384x4x9, .i32⟩
  | 47 => ⟨S2x384x384x4x9, .i32⟩
  | 48 => ⟨S_, .i32⟩
  | 49 => ⟨S2x384x384x4x9, .i32⟩
  | 50 => ⟨S2x384x384x4x9, .i32⟩
  | 51 => ⟨S_, .i32⟩
  | 52 => ⟨S2x384x384x4x9, .i32⟩
  | 53 => ⟨S2x384x384x4x9, .i1⟩
  | 54 => ⟨S_, .i32⟩
  | 55 => ⟨S2x384x384x4x9, .i32⟩
  | 56 => ⟨S2x384x384x4x9, .i1⟩
  | 57 => ⟨S2x384x384x4x9, .i1⟩
  | 58 => ⟨S2x384x384x4x9, .f32⟩
  | 59 => ⟨S2x384x384x4x9, .f32⟩
  | 60 => ⟨S2x384x384x4x9x1, .i32⟩
  | 61 => ⟨S2x384x384x4x9x1, .i32⟩
  | 62 => ⟨S2x384x384x4x9x1, .i32⟩
  | 63 => ⟨S2x384x384x4x9x1, .i32⟩
  | 64 => ⟨S2x384x384x4x9x4, .i32⟩
  | 65 => ⟨S2x384x384x4x9x16, .f32⟩
  | 66 => ⟨S2x384x384x4x9, .f32⟩
  | 67 => ⟨S2x384x384x4x9x1, .f32⟩
  | 68 => ⟨S2x384x384x4x9x16, .f32⟩
  | 69 => ⟨S2x384x384x4x9x16, .f32⟩
  | 70 => ⟨S2x384x384x4x9x1, .i32⟩
  | 71 => ⟨S2x384x384x4x9x1, .i32⟩
  | 72 => ⟨S2x384x384x4x9x1, .i32⟩
  | 73 => ⟨S2x384x384x4x9x1, .i32⟩
  | 74 => ⟨S2x384x384x4x9x4, .i32⟩
  | 75 => ⟨S2x384x384x4x9x16, .f32⟩
  | 76 => ⟨S2x384x384x4x9, .f32⟩
  | 77 => ⟨S2x384x384x4x9x1, .f32⟩
  | 78 => ⟨S2x384x384x4x9x16, .f32⟩
  | 79 => ⟨S2x384x384x4x9x16, .f32⟩
  | 80 => ⟨S2x384x384x4x9x1, .i32⟩
  | 81 => ⟨S2x384x384x4x9x1, .i32⟩
  | 82 => ⟨S2x384x384x4x9x1, .i32⟩
  | 83 => ⟨S2x384x384x4x9x1, .i32⟩
  | 84 => ⟨S2x384x384x4x9x4, .i32⟩
  | 85 => ⟨S2x384x384x4x9x16, .f32⟩
  | 86 => ⟨S2x384x384x4x9, .f32⟩
  | 87 => ⟨S2x384x384x4x9x1, .f32⟩
  | 88 => ⟨S2x384x384x4x9x16, .f32⟩
  | 89 => ⟨S2x384x384x4x9x16, .f32⟩
  | 90 => ⟨S2x384x384x4x9x1, .i32⟩
  | 91 => ⟨S2x384x384x4x9x1, .i32⟩
  | 92 => ⟨S2x384x384x4x9x1, .i32⟩
  | 93 => ⟨S2x384x384x4x9x1, .i32⟩
  | 94 => ⟨S2x384x384x4x9x4, .i32⟩
  | 95 => ⟨S2x384x384x4x9x16, .f32⟩
  | 96 => ⟨S2x384x384x4x9, .f32⟩
  | 97 => ⟨S2x384x384x4x9x1, .f32⟩
  | 98 => ⟨S2x384x384x4x9x16, .f32⟩
  | 99 => ⟨S2x384x384x4x9x16, .f32⟩
  | 100 => ⟨S2x384x384x4x9x16, .f32⟩
  | 101 => ⟨S2x384x384x4x9x16, .f32⟩
  | 102 => ⟨S2x384x384x4x9x16, .f32⟩
  | 103 => ⟨S2x384x384x4x9x1, .f32⟩
  | 104 => ⟨S2x384x384x4x9x16, .f32⟩
  | 105 => ⟨S2x384x384x4x9x16, .f32⟩
  | 106 => ⟨S_, .f32⟩
  | 107 => ⟨S2x384x384x4x16, .f32⟩
  | 108 => ⟨S2x384x384x64, .f32⟩
  | 109 => ⟨S2x384x384x64, .f32⟩
  | 110 => ⟨S2x64x384x384, .f32⟩
  | _ => ⟨S2x64x384x384, .f32⟩

abbrev hbmTy (i : Nat) : BufTy := match i / 128 with
  | 0 => hbmTy0_0 i
  | 1 => hbmTy0_1 i
  | _ => ⟨S2x64x384x384, .f32⟩

abbrev bufTy : (tb : Table) → Fin (tcTables nBuf tb) → BufTy
  | .hbm, ⟨i, _⟩ => hbmTy i
  | _, _ => ⟨S2x64x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_0 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_1 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_cst_2 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_cst_3 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_cst_4 : Ref sig .tc := ⟨.hbm, 113, rfl⟩
abbrev main_v100 : Ref sig .tc := ⟨.hbm, 114, rfl⟩
abbrev main_v101 : Ref sig .tc := ⟨.hbm, 115, rfl⟩
abbrev main_c : Ref sig .tc := ⟨.hbm, 116, rfl⟩
abbrev main_v102 : Ref sig .tc := ⟨.hbm, 117, rfl⟩
abbrev main_v103 : Ref sig .tc := ⟨.hbm, 118, rfl⟩
abbrev main_c_5 : Ref sig .tc := ⟨.hbm, 119, rfl⟩
abbrev main_v104 : Ref sig .tc := ⟨.hbm, 120, rfl⟩
abbrev main_v105 : Ref sig .tc := ⟨.hbm, 121, rfl⟩
abbrev main_c_6 : Ref sig .tc := ⟨.hbm, 122, rfl⟩
abbrev main_v106 : Ref sig .tc := ⟨.hbm, 123, rfl⟩
abbrev main_v107 : Ref sig .tc := ⟨.hbm, 124, rfl⟩
abbrev main_c_7 : Ref sig .tc := ⟨.hbm, 125, rfl⟩
abbrev main_v108 : Ref sig .tc := ⟨.hbm, 126, rfl⟩
abbrev main_v109 : Ref sig .tc := ⟨.hbm, 127, rfl⟩
abbrev main_c_8 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_c_9 : Ref sig .tc := ⟨.hbm, 134, rfl⟩
abbrev main_v115 : Ref sig .tc := ⟨.hbm, 135, rfl⟩
abbrev main_v116 : Ref sig .tc := ⟨.hbm, 136, rfl⟩
abbrev main_c_10 : Ref sig .tc := ⟨.hbm, 137, rfl⟩
abbrev main_v117 : Ref sig .tc := ⟨.hbm, 138, rfl⟩
abbrev main_v118 : Ref sig .tc := ⟨.hbm, 139, rfl⟩
abbrev main_c_11 : Ref sig .tc := ⟨.hbm, 140, rfl⟩
abbrev main_v119 : Ref sig .tc := ⟨.hbm, 141, rfl⟩
abbrev main_v120 : Ref sig .tc := ⟨.hbm, 142, rfl⟩
abbrev main_c_12 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_cst_13 : Ref sig .tc := ⟨.hbm, 152, rfl⟩
abbrev main_v129 : Ref sig .tc := ⟨.hbm, 153, rfl⟩
abbrev main_v130 : Ref sig .tc := ⟨.hbm, 154, rfl⟩
abbrev main_c_14 : Ref sig .tc := ⟨.hbm, 155, rfl⟩
abbrev main_v131 : Ref sig .tc := ⟨.hbm, 156, rfl⟩
abbrev main_v132 : Ref sig .tc := ⟨.hbm, 157, rfl⟩
abbrev main_c_15 : Ref sig .tc := ⟨.hbm, 158, rfl⟩
abbrev main_v133 : Ref sig .tc := ⟨.hbm, 159, rfl⟩
abbrev main_v134 : Ref sig .tc := ⟨.hbm, 160, rfl⟩
abbrev main_c_16 : Ref sig .tc := ⟨.hbm, 161, rfl⟩
abbrev main_v135 : Ref sig .tc := ⟨.hbm, 162, rfl⟩
abbrev main_v136 : Ref sig .tc := ⟨.hbm, 163, rfl⟩
abbrev main_c_17 : Ref sig .tc := ⟨.hbm, 164, rfl⟩
abbrev main_v137 : Ref sig .tc := ⟨.hbm, 165, rfl⟩
abbrev main_v138 : Ref sig .tc := ⟨.hbm, 166, rfl⟩
abbrev main_c_18 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_c_19 : Ref sig .tc := ⟨.hbm, 173, rfl⟩
abbrev main_v144 : Ref sig .tc := ⟨.hbm, 174, rfl⟩
abbrev main_v145 : Ref sig .tc := ⟨.hbm, 175, rfl⟩
abbrev main_c_20 : Ref sig .tc := ⟨.hbm, 176, rfl⟩
abbrev main_v146 : Ref sig .tc := ⟨.hbm, 177, rfl⟩
abbrev main_v147 : Ref sig .tc := ⟨.hbm, 178, rfl⟩
abbrev main_c_21 : Ref sig .tc := ⟨.hbm, 179, rfl⟩
abbrev main_v148 : Ref sig .tc := ⟨.hbm, 180, rfl⟩
abbrev main_v149 : Ref sig .tc := ⟨.hbm, 181, rfl⟩
abbrev main_c_22 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_cst_23 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩

abbrev nD : Nat := 1
abbrev τ : Topo := Topo.v7x

variable {F : FTy → Type} [FloatOps F]
-- ==== Proof.Dcn.Stencil.lean ====
/- The kernel's body in a small vocabulary: the offset and mask rows it reads, the three hat coefficients of an offset,
   the 25 weights of a group's 5x5 stencil, the stencil itself and the output projection. The body's one store is that
   composition of the predictor rows and of the padded value block. -/
module

public import proofs.«01_k».proof.Proof.Gen.KernelIdeal.Frame

@[expose] public section

noncomputable section

namespace Cert.Dcn

open Cert.KernelIdeal Cert.KernelIdeal.Gen Idealize.ShloMosaic Idealize.ShloMosaic.TcCoe

variable {F : FTy → Type} [FloatOps F]

/-- One row of the predictor block is a slice of it. -/
theorem slices_row {n : ℕ} (h : n < 112) : S112x16x384.Slices ![n, 0, 0] S1x16x384 :=
  ⟨rfl, fun a => match a with
    | ⟨0, _⟩ => by show n + 1 ≤ 112; omega
    | ⟨1, _⟩ => by show 0 + 16 ≤ 16; omega
    | ⟨2, _⟩ => by show 0 + 384 ≤ 384; omega⟩

/-- The sixteen channels of a group are a slice of the value block. -/
theorem slices_group (g : Fin 4) : S64x20x388.Slices ![16 * g.val, 0, 0] S16x20x388 :=
  ⟨rfl, fun a => match a with
    | ⟨0, _⟩ => by show 16 * g.val + 16 ≤ 64; omega
    | ⟨1, _⟩ => by show 0 + 20 ≤ 20; omega
    | ⟨2, _⟩ => by show 0 + 388 ≤ 388; omega⟩

/-- Sixteen of the twenty rows from row `v`. -/
theorem slices_rows (v : Fin 5) : S16x20x388.Slices ![0, v.val, 0] S16x16x388 :=
  ⟨rfl, fun a => match a with
    | ⟨0, _⟩ => by show 0 + 16 ≤ 16; omega
    | ⟨1, _⟩ => by show v.val + 16 ≤ 20; omega
    | ⟨2, _⟩ => by show 0 + 388 ≤ 388; omega⟩

/-- 384 of the 388 columns from column `u`. -/
theorem slices_cols (u : Fin 5) : S16x16x388.Slices ![0, 0, u.val] S16x16x384 :=
  ⟨rfl, fun a => match a with
    | ⟨0, _⟩ => by show 0 + 16 ≤ 16; omega
    | ⟨1, _⟩ => by show 0 + 16 ≤ 16; omega
    | ⟨2, _⟩ => by show u.val + 384 ≤ 388; omega⟩

/-- Row `n` of the predictor block. -/
def omRow (om : FVec F S112x16x384 .f32) (n : ℕ) (h : n < 112) : FVec F S16x384 .f32 :=
  shapeCast S16x384 (extractStridedSlice S1x16x384 ![n, 0, 0] om (slices_row h)) shapeCasts_S1x16x384_S16x384

/-- The weight an offset `d` gives the grid line one before, at and one after its base: `max (-d) 0`, `1 - |d|`, `max d 0`. -/
def hat (s : Fin 3) (d : FVec F S16x384 .f32) : FVec F S16x384 .f32 :=
  match s with
  | 0 => maximumf (subf (broadcast S16x384 (Scalar.ofBits .f32 0x00000000#32)) d) (broadcast S16x384 (Scalar.ofBits .f32 0x00000000#32))
  | 1 => subf (broadcast S16x384 (Scalar.ofBits .f32 0x3F800000#32)) (absf d)
  | 2 => maximumf d (broadcast S16x384 (Scalar.ofBits .f32 0x00000000#32))

/-- What the point `(ky, kx)` of group `g` adds to the weight of the neighbour `(ky + sy, kx + sx)`. -/
def term (om : FVec F S112x16x384 .f32) (g : Fin 4) (ky sy kx sx : Fin 3) : FVec F S16x384 .f32 :=
  mulf (mulf (omRow om (27 * g.val + 18 + (3 * ky.val + kx.val)) (by omega))
      (hat sy (omRow om (27 * g.val + 2 * (3 * ky.val + kx.val) + 1) (by omega))))
    (hat sx (omRow om (27 * g.val + 2 * (3 * ky.val + kx.val)) (by omega)))

/-- The sum of a list from the left, without an initial zero. -/
def total {s : Shape} : List (FVec F s .f32) → FVec F s .f32
  | [] => constant s .f32 0x00000000#32
  | t :: ts => ts.foldl addf t

/-- The pairs of a point's coordinate and a hat coefficient that meet at the neighbour's coordinate `v`. -/
def meets (v : Fin 5) : List (Fin 3 × Fin 3) :=
  match v with
  | 0 => [(0, 0)]
  | 1 => [(0, 1), (1, 0)]
  | 2 => [(0, 2), (1, 1), (2, 0)]
  | 3 => [(1, 2), (2, 1)]
  | 4 => [(2, 2)]

/-- The weight of the neighbour `(v, u)`. -/
def weight (om : FVec F S112x16x384 .f32) (g : Fin 4) (v u : Fin 5) : FVec F S16x384 .f32 :=
  total ((meets v).flatMap fun y => (meets u).map fun x => term om g y.1 y.2 x.1 x.2)

/-- The value block of group `g` seen from the neighbour `(v, u)`. -/
def shifted (vp : FVec F S64x20x388 .f32) (g : Fin 4) (v u : Fin 5) : FVec F S16x16x384 .f32 :=
  extractStridedSlice S16x16x384 ![0, 0, u.val]
    (extractStridedSlice S16x16x388 ![0, v.val, 0]
      (extractStridedSlice S16x20x388 ![16 * g.val, 0, 0] vp (slices_group g)) (slices_rows v)) (slices_cols u)

/-- The stencil of group `g`: the sum of the 25 neighbours, each times its weight. -/
def stencil (om : FVec F S112x16x384 .f32) (vp : FVec F S64x20x388 .f32) (g : Fin 4) : FVec F S16x16x384 .f32 :=
  total (([0, 1, 2, 3, 4] : List (Fin 5)).flatMap fun v => ([0, 1, 2, 3, 4] : List (Fin 5)).map fun u =>
    mulf (shifted vp g v u)
      (broadcastTo S16x16x384 (shapeCast S1x16x384 (weight om g v u) shapeCasts_S16x384_S1x16x384)
        broadcasts_S1x16x384_S16x16x384))

/-- The output projection of the four groups' stencils. -/
def project (om : FVec F S112x16x384 .f32) (vp : FVec F S64x20x388 .f32) (wo : FVec F S64x64 .f32) : FVec F S64x16x384 .f32 :=
  matmul dot_S64x64_S64x16x384_S64x16x384_0_0_1_12_n_n none wo
    (concatenate S64x16x384 0 [⟨S16x16x384, stencil om vp 0⟩, ⟨S16x16x384, stencil om vp 1⟩, ⟨S16x16x384, stencil om vp 2⟩,
      ⟨S16x16x384, stencil om vp 3⟩] concatenates_S16x16x384_S16x16x384_S16x16x384_S16x16x384_S64x16x384_d0)
    (constant S64x16x384 .f32 0x00000000#32)

set_option maxRecDepth 100000 in
set_option maxHeartbeats 4000000 in
/-- What the body stores: the projection of the stencils over the predictor block and the padded value block. -/
theorem out_eq (i : grid0.Coords) (x0 : Vec F S1x64x8x384 .f32) (x1 : Vec F S1x64x16x384 .f32) (x2 : Vec F S1x64x8x384 .f32)
    (x3 : Vec F S64x64 .f32) (x4 : Vec F S64x1x1 .f32) (x5 : Vec F S9x64x1x1 .f32) (x6 : Vec F S64x1x1 .f32)
    (x7 : Vec F S64x112 .f32) (x8 : Vec F S112x1x1 .f32) (x9 : Vec F S64x64 .f32) :
    out0_10 i x0 x1 x2 x3 x4 x5 x6 x7 x8 x9 = View.canon [⟨r0_2, shapeCast S1x64x16x384
      (project (k0_pay707 i x0 x1 x2 x3 x4 x5 x6 x7 x8 x9) (k0_pay708 i x0 x1 x2 x3 x4 x5 x6 x7 x8 x9) (View.ld x9 r0_15))
      shapeCasts_S64x16x384_S1x64x16x384⟩] := by
  rfl

end Cert.Dcn

end
-- ==== Proof.Dcn.Spec.lean ====
/- The quantities both programs compute, over the extended reals: a plane extended by zeros, the value map, the depthwise
   convolution, the predictor's channels, the weights of the 5x5 stencil and the stencil's sum. -/
module

public import proofs.«01_k».proof.Proof.Dcn.Stencil
public import Idealize.ShloMosaic.Lib.Pointwise

@[expose] public section

noncomputable section

namespace Cert.Dcn

open Cert.KernelIdeal Idealize.ShloMosaic

/-- A plane of 384 by 384 entries, read as 0 outside. -/
def zext (f : Fin 384 → Fin 384 → EReal) (p q : ℤ) : EReal :=
  if h : (0 ≤ p ∧ p < 384) ∧ 0 ≤ q ∧ q < 384 then f ⟨p.toNat, by omega⟩ ⟨q.toNat, by omega⟩ else 0

/-- Extension by zeros inside the image. -/
theorem zext_in (f : Fin 384 → Fin 384 → EReal) (p q : ℤ) (a b : Fin 384) (ha : p = a.val) (hb : q = b.val) :
    zext f p q = f a b := by
  subst ha hb
  unfold zext
  rw [dif_pos (by omega)]
  rfl

/-- Extension by zeros outside the image. -/
theorem zext_out (f : Fin 384 → Fin 384 → EReal) (p q : ℤ) (h : ¬((0 ≤ p ∧ p < 384) ∧ 0 ≤ q ∧ q < 384)) : zext f p q = 0 :=
  dif_neg h

/-- The value map: channel `c` of image `b` at row `p`, column `q`. -/
def valueAt (x : Vec Ideal S2x64x384x384 .f32) (wv : Vec Ideal S64x64 .f32) (bv : Vec Ideal S64 .f32) (b : Fin 2) (c : Fin 64)
    (p q : Fin 384) : EReal :=
  (∑ k : Fin 64, wv (ix2 k c) * x (ix4 b k p q) : EReal) + bv (ix1 c)

/-- The product of one tap of the depthwise convolution with the entry below it. -/
def tapAt (x : Vec Ideal S2x64x384x384 .f32) (wd : Vec Ideal S64x1x3x3 .f32) (b : Fin 2) (c : Fin 64) (p q : Fin 384)
    (ky kx : Fin 3) : EReal :=
  zext (fun y z => x (ix4 b c y z)) (p.val + ky.val - 1) (q.val + kx.val - 1) * wd (ix4 c 0 ky kx)

/-- The depthwise 3x3 convolution with a border of zeros. -/
def convAt (x : Vec Ideal S2x64x384x384 .f32) (wd : Vec Ideal S64x1x3x3 .f32) (bd : Vec Ideal S64 .f32) (b : Fin 2) (c : Fin 64)
    (p q : Fin 384) : EReal :=
  tapAt x wd b c p q 0 0 + tapAt x wd b c p q 0 1 + tapAt x wd b c p q 0 2
    + tapAt x wd b c p q 1 0 + tapAt x wd b c p q 1 1 + tapAt x wd b c p q 1 2
    + tapAt x wd b c p q 2 0 + tapAt x wd b c p q 2 1 + tapAt x wd b c p q 2 2 + bd (ix1 c)

/-- Channel `n` of the offset and mask predictor. -/
def omAt (x : Vec Ideal S2x64x384x384 .f32) (wd : Vec Ideal S64x1x3x3 .f32) (bd : Vec Ideal S64 .f32)
    (wom : Vec Ideal S64x112 .f32) (bom : Vec Ideal S112 .f32) (b : Fin 2) (p q : Fin 384) (n : Fin 112) : EReal :=
  (∑ k : Fin 64, wom (ix2 k n) * convAt x wd bd b k p q : EReal) + bom (ix1 n)

/-- The weight an offset `d` gives the grid line one before, at and one after its base. -/
def hatAt (s : Fin 3) (d : EReal) : EReal :=
  match s with
  | 0 => max (0 - d) 0
  | 1 => 1 - max d (-d)
  | 2 => max d 0

/-- What the point `(ky, kx)` of group `g` adds to the weight of the neighbour `(ky + sy, kx + sx)`. -/
def termAt (o : Fin 112 → EReal) (g : Fin 4) (ky sy kx sx : Fin 3) : EReal :=
  o ⟨27 * g.val + 18 + (3 * ky.val + kx.val), by omega⟩ * hatAt sy (o ⟨27 * g.val + 2 * (3 * ky.val + kx.val) + 1, by omega⟩)
    * hatAt sx (o ⟨27 * g.val + 2 * (3 * ky.val + kx.val), by omega⟩)

/-- The weight of the neighbour `(v, u)`. -/
def weightAt (o : Fin 112 → EReal) (g : Fin 4) (v u : Fin 5) : EReal :=
  ((meets v).flatMap fun y => (meets u).map fun x => termAt o g y.1 y.2 x.1 x.2).sum

/-- The stencil over the 25 neighbours `N`. -/
def stencilAt (o : Fin 112 → EReal) (g : Fin 4) (N : Fin 5 → Fin 5 → EReal) : EReal :=
  (([0, 1, 2, 3, 4] : List (Fin 5)).flatMap fun v => ([0, 1, 2, 3, 4] : List (Fin 5)).map fun u => N v u * weightAt o g v u).sum

/-- The neighbour `(v, u)` of an entry: up to two rows and two columns away. -/
def nearAt (f : Fin 384 → Fin 384 → EReal) (p q : Fin 384) (v u : Fin 5) : EReal :=
  zext f (p.val + v.val - 2) (q.val + u.val - 2)

/-- The group of a channel. -/
def groupOf (c : Fin 64) : Fin 4 := ⟨c.val / 16, by omega⟩

/-- The stencil at channel `c` of image `b`, row `p`, column `q`. -/
def mixedAt (x : Vec Ideal S2x64x384x384 .f32) (wv : Vec Ideal S64x64 .f32) (bv : Vec Ideal S64 .f32)
    (wd : Vec Ideal S64x1x3x3 .f32) (bd : Vec Ideal S64 .f32) (wom : Vec Ideal S64x112 .f32) (bom : Vec Ideal S112 .f32)
    (b : Fin 2) (c : Fin 64) (p q : Fin 384) : EReal :=
  stencilAt (omAt x wd bd wom bom b p q) (groupOf c) (nearAt (valueAt x wv bv b c) p q)

/-- The kernel's result at output channel `o`. -/
def resultAt (x : Vec Ideal S2x64x384x384 .f32) (wv : Vec Ideal S64x64 .f32) (bv : Vec Ideal S64 .f32)
    (wd : Vec Ideal S64x1x3x3 .f32) (bd : Vec Ideal S64 .f32) (wom : Vec Ideal S64x112 .f32) (bom : Vec Ideal S112 .f32)
    (wo : Vec Ideal S64x64 .f32) (b : Fin 2) (o : Fin 64) (p q : Fin 384) : EReal :=
  ∑ c : Fin 64, wo (ix2 c o) * mixedAt x wv bv wd bd wom bom b c p q

end Cert.Dcn

end
-- ==== Proof.Dcn.Body.lean ====
/- The body's values at one index, over the extended reals: the projection of the stencils, the padded input block, the padded
   value block and the predictor block. -/
module

public import proofs.«01_k».proof.Proof.Dcn.Spec

@[expose] public section

noncomputable section

namespace Cert.Dcn

open Cert.KernelIdeal Cert.KernelIdeal.Gen Idealize.ShloMosaic Idealize.ShloMosaic.TcCoe

set_option maxRecDepth 16384

/-- A running sum of arrays, at an index. -/
theorem foldl_addf_apply {s : Shape} (ts : List (FVec Ideal s .f32)) (t : FVec Ideal s .f32) (j : s.Idx) :
    ts.foldl addf t j = (t j : EReal) + (ts.map fun v => (v j : EReal)).sum := by
  induction ts generalizing t with
  | nil => simp
  | cons a ts ih => rw [List.foldl_cons, ih, List.map_cons, List.sum_cons, ← add_assoc]; rfl

/-- A sum of a list of arrays, at an index. -/
theorem total_apply {s : Shape} (ts : List (FVec Ideal s .f32)) (j : s.Idx) :
    total ts j = (ts.map fun v => (v j : EReal)).sum := by
  cases ts with
  | nil => show Ideal.ofBits .f32 0x00000000#32 = _; rw [Ideal.ofBits_zero_f32]; rfl
  | cons t ts => exact (foldl_addf_apply ts t j).trans (by rw [List.map_cons, List.sum_cons])

/-- One output of the predictor. -/
theorem omRow_apply (om : FVec Ideal S112x16x384 .f32) (n : ℕ) (h : n < 112) (q : Fin 16) (x : Fin 384) :
    omRow om n h (ix2 q x) = om (ix3 ⟨n, h⟩ q x) := by
  pointwise [omRow]

/-- A hat weight, at an index. -/
theorem hat_apply (s : Fin 3) (d : FVec Ideal S16x384 .f32) (j : S16x384.Idx) : hat s d j = hatAt s (d j) := by
  match s with
  | 0 => pointwise [hat, hatAt]
  | 1 => pointwise [hat, hatAt]; rfl
  | 2 => pointwise [hat, hatAt]

/-- One term of a weight, at an index. -/
theorem term_apply (om : FVec Ideal S112x16x384 .f32) (g : Fin 4) (ky sy kx sx : Fin 3) (q : Fin 16) (x : Fin 384) :
    term om g ky sy kx sx (ix2 q x) = termAt (fun n => om (ix3 n q x)) g ky sy kx sx := by
  unfold term termAt
  rw [mulf_apply, mulf_apply, hat_apply, hat_apply, omRow_apply, omRow_apply, omRow_apply]
  rfl

/-- The weight of a neighbour, at an index. -/
theorem weight_apply (om : FVec Ideal S112x16x384 .f32) (g : Fin 4) (v u : Fin 5) (q : Fin 16) (x : Fin 384) :
    weight om g v u (ix2 q x) = weightAt (fun n => om (ix3 n q x)) g v u := by
  unfold weight weightAt
  rw [total_apply, List.map_flatMap]
  simp only [List.map_map, Function.comp_def, term_apply]

/-- A neighbour's plane, at an index. -/
theorem shifted_apply (vp : FVec Ideal S64x20x388 .f32) (g : Fin 4) (v u : Fin 5) (c q : Fin 16) (x : Fin 384) :
    shifted vp g v u (ix3 c q x)
      = vp (ix3 ⟨16 * g.val + c.val, by omega⟩ ⟨v.val + q.val, by omega⟩ ⟨u.val + x.val, by omega⟩) := by
  pointwise [shifted]

/-- A group's stencil, at an index. -/
theorem stencil_apply (om : FVec Ideal S112x16x384 .f32) (vp : FVec Ideal S64x20x388 .f32) (g : Fin 4) (c q : Fin 16) (x : Fin 384) :
    stencil om vp g (ix3 c q x) = stencilAt (fun n => om (ix3 n q x)) g
      (fun v u => vp (ix3 ⟨16 * g.val + c.val, by omega⟩ ⟨v.val + q.val, by omega⟩ ⟨u.val + x.val, by omega⟩)) := by
  have hw : ∀ w : FVec Ideal S16x384 .f32, broadcastTo S16x16x384 (shapeCast S1x16x384 w shapeCasts_S16x384_S1x16x384)
      broadcasts_S1x16x384_S16x16x384 (ix3 c q x) = w (ix2 q x) := fun w => by pointwise
  unfold stencil stencilAt
  rw [total_apply, List.map_flatMap]
  simp only [List.map_map, Function.comp_def, mulf_apply, hw, weight_apply, shifted_apply]
  rfl

/-- The output projection, at an index. -/
theorem project_apply (om : FVec Ideal S112x16x384 .f32) (vp : FVec Ideal S64x20x388 .f32) (wo : FVec Ideal S64x64 .f32)
    (o : Fin 64) (q : Fin 16) (x : Fin 384) :
    project om vp wo (ix3 o q x) = (∑ c : Fin 64, wo (ix2 c o) * stencilAt (fun n => om (ix3 n q x)) (groupOf c)
      (fun v u => vp (ix3 c ⟨v.val + q.val, by omega⟩ ⟨u.val + x.val, by omega⟩)) : EReal) := by
  pointwise [project]
  refine Finset.sum_congr rfl fun c _ => congrArg (fun z : EReal => (wo (ix2 c o) : EReal) * z) ?_
  have key : ∀ (g : Fin 4) (r : Fin 16), 16 * g.val + r.val = c.val → stencil om vp g (ix3 r q x)
      = stencilAt (fun n => om (ix3 n q x)) (groupOf c)
      (fun v u => vp (ix3 c ⟨v.val + q.val, by omega⟩ ⟨u.val + x.val, by omega⟩)) := fun g r h => by
    have hg : groupOf c = g := Fin.ext (by show c.val / 16 = g.val; omega)
    have hc : c = ⟨16 * g.val + r.val, by omega⟩ := Fin.ext h.symm
    rw [stencil_apply, hg, ← hc]
  split
  · exact key 0 _ (by simp)
  · split
    · exact key 1 _ (by simp; omega)
    · split
      · exact key 2 _ (by simp; omega)
      · exact key 3 _ (by simp; omega)

/-- The three parts of the twenty rows a block works on, over the plane they come from. -/
theorem rows_apply (i : grid0.Coords) (v0 v6 : Vec Ideal S1x64x2x384 .f32) (v12 : Vec Ideal S1x64x16x384 .f32)
    (X : Fin 64 → Fin 384 → Fin 384 → EReal) (t : ℕ) (hi : (i 1).val = t) (ht : t < 24)
    (h0 : ∀ (c : Fin 64) (r : Fin 2) (x : Fin 384) (h : 0 < t), v0 (ix4 0 c r x) = X c ⟨16 * t - 2 + r.val, by omega⟩ x)
    (h12 : ∀ (c : Fin 64) (r : Fin 16) (x : Fin 384), v12 (ix4 0 c r x) = X c ⟨16 * t + r.val, by omega⟩ x)
    (h6 : ∀ (c : Fin 64) (r : Fin 2) (x : Fin 384) (h : t < 23), v6 (ix4 0 c r x) = X c ⟨16 * t + 16 + r.val, by omega⟩ x)
    (c : Fin 64) (q : Fin 20) (x : Fin 384) :
    k0_pay2 i v0 v6 v12 (ix3 c q x) = zext (X c) (16 * t + q.val - 2) x.val := by
  pointwise [k0_pay2]
  rw [hi]
  have hs : (Scalar.cmpi CmpIPredicate.sgt (BitVec.ofNat 32 t) 0#32) = BitVec.ofBool (decide (0 < t)) := by
    interval_cases t <;> rfl
  have hl : (Scalar.cmpi CmpIPredicate.slt (BitVec.ofNat 32 t) 23#32) = BitVec.ofBool (decide (t < 23)) := by
    interval_cases t <;> rfl
  rw [hs, hl]
  split
  · by_cases h : 0 < t
    · rw [decide_eq_true h, h0 _ _ _ h, zext_in _ _ _ ⟨16 * t - 2 + q.val, by omega⟩ x (by simp; omega) rfl]; rfl
    · rw [decide_eq_false h, zext_out _ _ _ (by omega)]; rfl
  · split
    · rw [h12, zext_in _ _ _ ⟨16 * t + (q.val - 2), by omega⟩ x (by simp; omega) rfl]
    · by_cases h : t < 23
      · rw [decide_eq_true h, h6 _ _ _ h, zext_in _ _ _ ⟨16 * t + 16 + (q.val - 2 - 16), by omega⟩ x (by simp; omega) rfl]; rfl
      · rw [decide_eq_false h, zext_out _ _ _ (by omega)]; rfl

/-- The same rows with two columns of zeros on either side. -/
theorem padded_apply (i : grid0.Coords) (v0 v6 : Vec Ideal S1x64x2x384 .f32) (v12 : Vec Ideal S1x64x16x384 .f32)
    (f : Fin 64 → Fin 384 → Fin 384 → EReal) (t : ℕ)
    (h : ∀ (c : Fin 64) (q : Fin 20) (x : Fin 384), k0_pay2 i v0 v6 v12 (ix3 c q x) = zext (f c) (16 * t + q.val - 2) x.val)
    (c : Fin 64) (q : Fin 20) (x : Fin 388) :
    k0_pay3 i v0 v6 v12 (ix3 c q x) = zext (f c) (16 * t + q.val - 2) (x.val - 2) := by
  pointwise [k0_pay3]
  split
  · rw [zext_out _ _ _ (by omega)]
  · split
    · rw [h]; congr 1; simp; omega
    · rw [zext_out _ _ _ (by omega)]

/-- Two columns of zeros on either side of a value block. -/
theorem framed_apply (v : FVec Ideal S64x20x384 .f32) (f : Fin 64 → Fin 384 → Fin 384 → EReal) (t : ℕ)
    (h : ∀ (c : Fin 64) (q : Fin 20) (x : Fin 384), v (ix3 c q x) = zext (f c) (16 * t + q.val - 2) x.val)
    (c : Fin 64) (q : Fin 20) (x : Fin 388) :
    k0_pay11 v (ix3 c q x) = zext (f c) (16 * t + q.val - 2) (x.val - 2) := by
  pointwise [k0_pay11]
  split
  · rw [zext_out _ _ _ (by omega)]
  · split
    · rw [h]; congr 1; simp; omega
    · rw [zext_out _ _ _ (by omega)]

/-- The 0/1 mask of the rows that lie in the image. -/
theorem rowMask (t q : ℕ) (ht : t < 24) (hq : q < 20) :
    (FloatOps.sitofp (F := Ideal) FTy.f32 (BitVec.setWidth 32
      (IntOp.andi (IntOp.cmpi CmpIPredicate.sge (IntOp.subi (IntOp.addi (BitVec.ofNat 32 q) (Scalar.muli (BitVec.ofNat 32 t) 16#32)) 2#32) 0#32)
        (IntOp.cmpi CmpIPredicate.slt (IntOp.subi (IntOp.addi (BitVec.ofNat 32 q) (Scalar.muli (BitVec.ofNat 32 t) 16#32)) 2#32) 384#32))) : EReal)
      = if 2 ≤ 16 * t + q ∧ 16 * t + q < 386 then 1 else 0 := by
  have hb : ∀ a : Fin 24, ∀ r : Fin 20, (BitVec.setWidth 32
      (IntOp.andi (IntOp.cmpi CmpIPredicate.sge (IntOp.subi (IntOp.addi (BitVec.ofNat 32 r.val) (Scalar.muli (BitVec.ofNat 32 a.val) 16#32)) 2#32) 0#32)
        (IntOp.cmpi CmpIPredicate.slt (IntOp.subi (IntOp.addi (BitVec.ofNat 32 r.val) (Scalar.muli (BitVec.ofNat 32 a.val) 16#32)) 2#32) 384#32)))
      = if 2 ≤ 16 * a.val + r.val ∧ 16 * a.val + r.val < 386 then 1#32 else 0#32 := by decide +kernel
  rw [hb ⟨t, ht⟩ ⟨q, hq⟩]
  dsimp only
  split
  · show (((1#32).toInt : ℝ) : EReal) = 1; simp
  · show (((0#32).toInt : ℝ) : EReal) = 0; simp

/-- The value block: the value map inside the image, 0 outside. -/
theorem value_apply (t : ℕ) (ht : t < 24) (xw : FVec Ideal S64x20x384 .f32) (wv : Vec Ideal S64x64 .f32) (bv : Vec Ideal S64x1x1 .f32)
    (X : Fin 64 → Fin 384 → Fin 384 → EReal)
    (h : ∀ (c : Fin 64) (q : Fin 20) (x : Fin 384), xw (ix3 c q x) = zext (X c) (16 * t + q.val - 2) x.val)
    (c : Fin 64) (q : Fin 20) (x : Fin 384) :
    k0_pay10 (BitVec.ofNat 32 t) xw wv bv (ix3 c q x)
      = zext (fun y z => (∑ k : Fin 64, wv (ix2 k c) * X k y z : EReal) + bv (ix3 c 0 0)) (16 * t + q.val - 2) x.val := by
  pointwise [k0_pay10]
  rw [rowMask t q.val ht q.isLt]
  by_cases hr : 2 ≤ 16 * t + q.val ∧ 16 * t + q.val < 386
  · rw [if_pos hr, mul_one, zext_in _ _ _ ⟨16 * t + q.val - 2, by omega⟩ x (by simp; omega) rfl]
    congr 1
    refine Finset.sum_congr rfl fun k _ => ?_
    rw [h, zext_in _ _ _ ⟨16 * t + q.val - 2, by omega⟩ x (by simp; omega) rfl]
  · rw [if_neg hr, zext_out _ _ _ (by omega)]
    exact mul_zero _

end Cert.Dcn

end
-- ==== Proof.Dcn.Predictor.lean ====
/- The predictor block at one index: the depthwise convolution of the padded rows, projected to the predictor's channels. -/
module

public import proofs.«01_k».proof.Proof.Dcn.Body

@[expose] public section

noncomputable section

namespace Cert.Dcn

open Cert.KernelIdeal Cert.KernelIdeal.Gen Idealize.ShloMosaic Idealize.ShloMosaic.TcCoe

set_option maxRecDepth 16384

section Rows

variable (i : grid0.Coords) (v0 v6 : Vec Ideal S1x64x2x384 .f32) (v12 : Vec Ideal S1x64x16x384 .f32) (k : Fin 64) (q : Fin 16)

/-- The rows the upper taps read. -/
theorem row0_apply (x : Fin 388) : k0_pay4 i v0 v6 v12 (ix3 k q x) = k0_pay3 i v0 v6 v12 (ix3 k ⟨1 + q.val, by omega⟩ x) := by
  unfold k0_pay4
  generalize k0_pay3 i v0 v6 v12 = y
  pointwise

/-- The rows the middle taps read. -/
theorem row1_apply (x : Fin 388) : k0_pay5 i v0 v6 v12 (ix3 k q x) = k0_pay3 i v0 v6 v12 (ix3 k ⟨2 + q.val, by omega⟩ x) := by
  unfold k0_pay5
  generalize k0_pay3 i v0 v6 v12 = y
  pointwise

/-- The rows the lower taps read. -/
theorem row2_apply (x : Fin 388) : k0_pay6 i v0 v6 v12 (ix3 k q x) = k0_pay3 i v0 v6 v12 (ix3 k ⟨3 + q.val, by omega⟩ x) := by
  unfold k0_pay6
  generalize k0_pay3 i v0 v6 v12 = y
  pointwise

/-- The first two taps. -/
theorem firstTaps_apply (w0 w1 : Vec Ideal S1x64x1x1 .f32) (x : Fin 384) :
    k0_pay7 i v0 v6 v12 w0 w1 (ix3 k q x)
      = (k0_pay4 i v0 v6 v12 (ix3 k q ⟨1 + x.val, by omega⟩) * w0 (ix4 0 k 0 0)
        + k0_pay4 i v0 v6 v12 (ix3 k q ⟨2 + x.val, by omega⟩) * w1 (ix4 0 k 0 0) : EReal) := by
  unfold k0_pay7
  generalize k0_pay4 i v0 v6 v12 = y
  pointwise

end Rows

/-- The other taps, the bias and the projection, over the rows and the first two taps' sum. -/
theorem lastTaps_apply (y0 y1 y2 : FVec Ideal S64x16x388 .f32) (a : FVec Ideal S64x16x384 .f32)
    (w2 w3 w4 w5 w6 w7 w8 : Vec Ideal S1x64x1x1 .f32) (bd : Vec Ideal S64x1x1 .f32) (wom : Vec Ideal S64x112 .f32)
    (bom : Vec Ideal S112x1x1 .f32) (n : Fin 112) (q : Fin 16) (x : Fin 384) :
    k0_pay9 y2 (k0_pay8 y0 y1 y2 a w2 w3 w4 w5 w6 w7) w8 bd wom bom (ix3 n q x)
      = ((∑ k : Fin 64, wom (ix2 k n) * (a (ix3 k q x) + y0 (ix3 k q ⟨3 + x.val, by omega⟩) * w2 (ix4 0 k 0 0)
          + y1 (ix3 k q ⟨1 + x.val, by omega⟩) * w3 (ix4 0 k 0 0) + y1 (ix3 k q ⟨2 + x.val, by omega⟩) * w4 (ix4 0 k 0 0)
          + y1 (ix3 k q ⟨3 + x.val, by omega⟩) * w5 (ix4 0 k 0 0) + y2 (ix3 k q ⟨1 + x.val, by omega⟩) * w6 (ix4 0 k 0 0)
          + y2 (ix3 k q ⟨2 + x.val, by omega⟩) * w7 (ix4 0 k 0 0) + y2 (ix3 k q ⟨3 + x.val, by omega⟩) * w8 (ix4 0 k 0 0)
          + bd (ix3 k 0 0))) + bom (ix3 n 0 0) : EReal) := by
  pointwise [k0_pay9, k0_pay8]

/-- The predictor block over an image `X` whose padded rows it reads. -/
theorem predictor_apply (i : grid0.Coords) (v0 v6 : Vec Ideal S1x64x2x384 .f32) (v12 : Vec Ideal S1x64x16x384 .f32)
    (w : Fin 3 → Fin 3 → Vec Ideal S1x64x1x1 .f32) (bdv : Vec Ideal S64x1x1 .f32) (womv : Vec Ideal S64x112 .f32)
    (bomv : Vec Ideal S112x1x1 .f32)
    (x : Vec Ideal S2x64x384x384 .f32) (wd : Vec Ideal S64x1x3x3 .f32) (bd : Vec Ideal S64 .f32)
    (wom : Vec Ideal S64x112 .f32) (bom : Vec Ideal S112 .f32) (b : Fin 2) (s : Fin 24)
    (hp : ∀ (k : Fin 64) (q : Fin 20) (z : Fin 388),
      k0_pay3 i v0 v6 v12 (ix3 k q z) = zext (fun y z => x (ix4 b k y z)) (16 * s.val + q.val - 2) (z.val - 2))
    (hw : ∀ (ky kx : Fin 3) (k : Fin 64), w ky kx (ix4 0 k 0 0) = wd (ix4 k 0 ky kx))
    (hbd : ∀ k : Fin 64, bdv (ix3 k 0 0) = bd (ix1 k)) (hwom : ∀ (k : Fin 64) (n : Fin 112), womv (ix2 k n) = wom (ix2 k n))
    (hbom : ∀ n : Fin 112, bomv (ix3 n 0 0) = bom (ix1 n)) (n : Fin 112) (q : Fin 16) (z : Fin 384) :
    k0_pay9 (k0_pay6 i v0 v6 v12) (k0_pay8 (k0_pay4 i v0 v6 v12) (k0_pay5 i v0 v6 v12) (k0_pay6 i v0 v6 v12)
        (k0_pay7 i v0 v6 v12 (w 0 0) (w 0 1)) (w 0 2) (w 1 0) (w 1 1) (w 1 2) (w 2 0) (w 2 1)) (w 2 2) bdv womv bomv (ix3 n q z)
      = omAt x wd bd wom bom b ⟨16 * s.val + q.val, by omega⟩ z n := by
  have tap : ∀ (k : Fin 64) (r : Fin 20) (u : Fin 388) (ky kx : Fin 3), r.val = ky.val + 1 + q.val → u.val = kx.val + 1 + z.val →
      (k0_pay3 i v0 v6 v12 (ix3 k r u) * w ky kx (ix4 0 k 0 0) : EReal)
        = tapAt x wd b k ⟨16 * s.val + q.val, by omega⟩ z ky kx := fun k r u ky kx hr hu => by
    unfold tapAt
    rw [hp, hw]
    congr 2
    · push_cast; omega
    · omega
  rw [lastTaps_apply]
  unfold omAt convAt
  simp only [firstTaps_apply, row0_apply, row1_apply, row2_apply, hbd, hwom, hbom]
  congr 1
  refine Finset.sum_congr rfl fun k _ => congrArg (fun e : EReal => (wom (ix2 k n) : EReal) * e) ?_
  rw [tap k _ _ 0 0, tap k _ _ 0 1, tap k _ _ 0 2, tap k _ _ 1 0, tap k _ _ 1 1, tap k _ _ 1 2, tap k _ _ 2 0, tap k _ _ 2 1,
    tap k _ _ 2 2] <;> rfl

end Cert.Dcn

end
-- ==== Proof.Dcn.Blocks.lean ====
/- The blocks a grid point works on, as parts of the launched arrays. -/
module

public import proofs.«01_k».proof.Proof.Dcn.Predictor
public import proofs.«01_k».proof.Proof.Gen.KernelIdeal.Value
public import Idealize.ShloMosaic.Lib.Pipeline.ValueKit

@[expose] public section

noncomputable section

namespace Cert.Dcn

open Cert.KernelIdeal Cert.KernelIdeal.Gen Idealize.ShloMosaic Idealize.ShloMosaic.TcCoe Idealize.SL.Sem

set_option maxRecDepth 16384

variable (m : (ℓ : Loc nD τ sig) → Buf (Elt Ideal) ℓ) (c : Dev nD)

/-- Where each window's block lies, in blocks, at a grid point. -/
theorem indices : ∀ t : Fin cfg0.N,
    win0_0.index t = ![(grid0.coords t 0).val, 0, 2 * (grid0.coords t 1).val - 1, 0]
    ∧ win0_1.index t = ![(grid0.coords t 0).val, 0, (grid0.coords t 1).val, 0]
    ∧ win0_2.index t = ![(grid0.coords t 0).val, 0, min (2 * (grid0.coords t 1).val + 2) 47, 0]
    ∧ win0_3.index t = ![0, 0] ∧ win0_4.index t = ![0, 0, 0] ∧ win0_5.index t = ![0, 0, 0, 0] ∧ win0_6.index t = ![0, 0, 0]
    ∧ win0_7.index t = ![0, 0] ∧ win0_8.index t = ![0, 0, 0] ∧ win0_9.index t = ![0, 0]
    ∧ win0_10.index t = ![(grid0.coords t 0).val, 0, (grid0.coords t 1).val, 0] := by
  decide +kernel

/-- The input array, and each of the seven parameter arrays, as launched. -/
abbrev argX : Vec Ideal S2x64x384x384 .f32 := m ((c : Thread nD τ).loc main_arg0)
/-- The value projection. -/
abbrev argWv : Vec Ideal S64x64 .f32 := m ((c : Thread nD τ).loc main_arg1)
/-- The value bias. -/
abbrev argBv : Vec Ideal S64 .f32 := m ((c : Thread nD τ).loc main_arg2)
/-- The convolution window. -/
abbrev argWd : Vec Ideal S64x1x3x3 .f32 := m ((c : Thread nD τ).loc main_arg3)
/-- The convolution bias. -/
abbrev argBd : Vec Ideal S64 .f32 := m ((c : Thread nD τ).loc main_arg4)
/-- The predictor. -/
abbrev argWom : Vec Ideal S64x112 .f32 := m ((c : Thread nD τ).loc main_arg5)
/-- The predictor bias. -/
abbrev argBom : Vec Ideal S112 .f32 := m ((c : Thread nD τ).loc main_arg6)
/-- The output projection. -/
abbrev argWo : Vec Ideal S64x64 .f32 := m ((c : Thread nD τ).loc main_arg7)

section Points

variable (t : Fin cfg0.N) (b : Fin 2) (hb : (grid0.coords t 0).val = b.val) (s : Fin 24) (hs : (grid0.coords t 1).val = s.val)
include hb hs

/-- The sixteen rows of the block. -/
theorem rows_mid (k : Fin 64) (r : Fin 16) (x : Fin 384) :
    View.ld (iblk m c 1 t) r0_2 (ix4 0 k r x) = argX m c (ix4 b k ⟨16 * s.val + r.val, by omega⟩ x) := by
  pointwise [r0_2]
  blk_ext [iblk, V, indices t]

/-- The two rows above. -/
theorem rows_top (k : Fin 64) (r : Fin 2) (x : Fin 384) (h : 0 < s.val) :
    View.ld (iblk m c 0 t) r0_0 (ix4 0 k r x) = argX m c (ix4 b k ⟨16 * s.val - 2 + r.val, by omega⟩ x) := by
  pointwise [r0_0]
  blk_ext [iblk, V, indices t]

/-- The two rows below. -/
theorem rows_bot (k : Fin 64) (r : Fin 2) (x : Fin 384) (h : s.val < 23) :
    View.ld (iblk m c 2 t) r0_1 (ix4 0 k r x) = argX m c (ix4 b k ⟨16 * s.val + 16 + r.val, by omega⟩ x) := by
  pointwise [r0_1]
  blk_ext [iblk, V, indices t]

/-- The twenty rows together. -/
theorem rows_all (k : Fin 64) (q : Fin 20) (x : Fin 384) :
    k0_pay2 (grid0.coords t) (View.ld (iblk m c 0 t) r0_0) (View.ld (iblk m c 2 t) r0_1) (View.ld (iblk m c 1 t) r0_2) (ix3 k q x)
      = zext (fun y z => argX m c (ix4 b k y z)) (16 * s.val + q.val - 2) x.val :=
  rows_apply (grid0.coords t) _ _ _ (fun k y z => argX m c (ix4 b k y z)) s.val hs s.isLt
    (fun k r x h => rows_top m c t b hb s hs k r x h) (fun k r x => rows_mid m c t b hb s hs k r x)
    (fun k r x h => rows_bot m c t b hb s hs k r x h) k q x

end Points

variable (t : Fin cfg0.N)

/-- The value projection's block. -/
theorem read_wv (k n : Fin 64) : View.ld (iblk m c 3 t) r0_15 (ix2 k n) = argWv m c (ix2 k n) := by
  pointwise [r0_15]
  blk_ext [iblk, V, indices t]

/-- The value bias's block. -/
theorem read_bv (k : Fin 64) : View.ld (iblk m c 4 t) r0_12 (ix3 k 0 0) = argBv m c (ix1 k) := by
  pointwise [r0_12]
  blk_ext! [iblk, indices t]

/-- The convolution window's block, one row of channels per tap. -/
theorem read_wd (n : Fin 9) (k : Fin 64) : (iblk m c 5 t : Vec Ideal S9x64x1x1 .f32) (ix4 n k 0 0)
    = argWd m c (ix4 k 0 ⟨n.val / 3, by omega⟩ ⟨n.val % 3, by omega⟩) := by
  blk_ext! [iblk, indices t]

/-- The tap `(ky, kx)` of the depthwise weights, as the body loads it. -/
def tap (w : Vec Ideal S9x64x1x1 .f32) (ky kx : Fin 3) : Vec Ideal S1x64x1x1 .f32 :=
  match ky, kx with
  | 0, 0 => View.ld w r0_3
  | 0, 1 => View.ld w r0_4
  | 0, 2 => View.ld w r0_5
  | 1, 0 => View.ld w r0_6
  | 1, 1 => View.ld w r0_7
  | 1, 2 => View.ld w r0_8
  | 2, 0 => View.ld w r0_9
  | 2, 1 => View.ld w r0_10
  | 2, 2 => View.ld w r0_11

/-- A tap of the window, from its block. -/
theorem tap_ld (w : Vec Ideal S9x64x1x1 .f32) (ky kx : Fin 3) (k : Fin 64) :
    tap w ky kx (ix4 0 k 0 0) = w (ix4 ⟨3 * ky.val + kx.val, by omega⟩ k 0 0) := by
  match ky, kx with
  | 0, 0 => pointwise [tap, r0_3]
  | 0, 1 => pointwise [tap, r0_4]
  | 0, 2 => pointwise [tap, r0_5]
  | 1, 0 => pointwise [tap, r0_6]
  | 1, 1 => pointwise [tap, r0_7]
  | 1, 2 => pointwise [tap, r0_8]
  | 2, 0 => pointwise [tap, r0_9]
  | 2, 1 => pointwise [tap, r0_10]
  | 2, 2 => pointwise [tap, r0_11]

/-- A tap of the window, from the argument. -/
theorem tap_apply (ky kx : Fin 3) (k : Fin 64) : tap (iblk m c 5 t) ky kx (ix4 0 k 0 0) = argWd m c (ix4 k 0 ky kx) := by
  rw [tap_ld, read_wd]
  congr 1
  exact congrArg₂ (fun a b : Fin 3 => (ix4 k 0 a b : S64x1x3x3.Idx)) (Fin.ext (by show (3 * ky.val + kx.val) / 3 = ky.val; omega))
    (Fin.ext (by show (3 * ky.val + kx.val) % 3 = kx.val; omega))

/-- The convolution bias's block. -/
theorem read_bd (k : Fin 64) : View.ld (iblk m c 6 t) r0_12 (ix3 k 0 0) = argBd m c (ix1 k) := by
  pointwise [r0_12]
  blk_ext! [iblk, indices t]

/-- The predictor's block. -/
theorem read_wom (k : Fin 64) (n : Fin 112) : View.ld (iblk m c 7 t) r0_13 (ix2 k n) = argWom m c (ix2 k n) := by
  pointwise [r0_13]
  blk_ext [iblk, V, indices t]

/-- The predictor bias's block. -/
theorem read_bom (n : Fin 112) : View.ld (iblk m c 8 t) r0_14 (ix3 n 0 0) = argBom m c (ix1 n) := by
  pointwise [r0_14]
  blk_ext! [iblk, indices t]

/-- The output projection's block. -/
theorem read_wo (k n : Fin 64) : View.ld (iblk m c 9 t) r0_15 (ix2 k n) = argWo m c (ix2 k n) := by
  pointwise [r0_15]
  blk_ext [iblk, V, indices t]

section Points

variable (b : Fin 2) (hb : (grid0.coords t 0).val = b.val) (s : Fin 24) (hs : (grid0.coords t 1).val = s.val)
include hb hs

/-- The padded value block is the value map, 0 outside the image. -/
theorem values_block (k : Fin 64) (q : Fin 20) (x : Fin 388) :
    k0_pay708 (grid0.coords t) (iblk m c 0 t) (iblk m c 1 t) (iblk m c 2 t) (iblk m c 3 t) (iblk m c 4 t) (iblk m c 5 t)
        (iblk m c 6 t) (iblk m c 7 t) (iblk m c 8 t) (iblk m c 9 t) (ix3 k q x)
      = zext (valueAt (argX m c) (argWv m c) (argBv m c) b k) (16 * s.val + q.val - 2) (x.val - 2) := by
  unfold k0_pay708
  rw [hs]
  refine framed_apply _ (valueAt (argX m c) (argWv m c) (argBv m c) b) s.val (fun k q x => ?_) k q x
  refine (value_apply s.val s.isLt _ _ _ _ (rows_all m c t b hb s hs) k q x).trans ?_
  rw [read_bv]
  simp only [read_wv]
  rfl

/-- The predictor block is the predictor's channels. -/
theorem predictor_block (n : Fin 112) (q : Fin 16) (x : Fin 384) :
    k0_pay707 (grid0.coords t) (iblk m c 0 t) (iblk m c 1 t) (iblk m c 2 t) (iblk m c 3 t) (iblk m c 4 t) (iblk m c 5 t)
        (iblk m c 6 t) (iblk m c 7 t) (iblk m c 8 t) (iblk m c 9 t) (ix3 n q x)
      = omAt (argX m c) (argWd m c) (argBd m c) (argWom m c) (argBom m c) b ⟨16 * s.val + q.val, by omega⟩ x n := by
  have hp := padded_apply (grid0.coords t) (View.ld (iblk m c 0 t) r0_0) (View.ld (iblk m c 2 t) r0_1)
    (View.ld (iblk m c 1 t) r0_2) (fun k y z => argX m c (ix4 b k y z)) s.val (rows_all m c t b hb s hs)
  exact predictor_apply (grid0.coords t) _ _ _ (tap (iblk m c 5 t)) _ _ _ (argX m c) (argWd m c) (argBd m c) (argWom m c)
    (argBom m c) b s hp (tap_apply m c t) (read_bd m c t) (read_wom m c t) (read_bom m c t) n q x

/-- What the body stores at a point is the result there. -/
theorem stored_apply (o : Fin 64) (q : Fin 16) (x : Fin 384) :
    out0_10 (grid0.coords t) (iblk m c 0 t) (iblk m c 1 t) (iblk m c 2 t) (iblk m c 3 t) (iblk m c 4 t) (iblk m c 5 t)
        (iblk m c 6 t) (iblk m c 7 t) (iblk m c 8 t) (iblk m c 9 t) (ix4 0 o q x)
      = resultAt (argX m c) (argWv m c) (argBv m c) (argWd m c) (argBd m c) (argWom m c) (argBom m c) (argWo m c) b o
          ⟨16 * s.val + q.val, by omega⟩ x := by
  rw [out_eq]
  unfold r0_2
  rw [View.canon_unit_zero (by decide)]
  have hc : ∀ y : FVec Ideal S64x16x384 .f32, shapeCast S1x64x16x384 y shapeCasts_S64x16x384_S1x64x16x384 (ix4 0 o q x)
      = y (ix3 o q x) := fun y => by pointwise
  rw [hc, project_apply]
  unfold resultAt mixedAt
  refine Finset.sum_congr rfl fun k _ => ?_
  rw [read_wo]
  congr 2
  · funext n
    exact predictor_block m c t b hb s hs n q x
  · funext v u
    rw [values_block m c t b hb s hs]
    unfold nearAt
    congr 1
    · push_cast; omega
    · push_cast; omega

end Points

/-- The result array after the run. -/
theorem array_eq : (dats m 0 c).arrAt 10 cfg0.N = ((fun i => resultAt (argX m c) (argWv m c) (argBv m c) (argWd m c) (argBd m c)
    (argWom m c) (argBom m c) (argWo m c) (i 0) (i 1) (i 2) (i 3)) : Vec Ideal S2x64x384x384 .f32) := by
  refine (dats m 0 c).arrAt_eq_of_covers 10 _ (by decide +kernel) fun t hf y => ?_
  blk_simp
  rw [after0_10]
  obtain ⟨a, o, q, x, rfl⟩ : ∃ (a : Fin 1) (o : Fin 64) (q : Fin 16) (x : Fin 384), y = ix4 a o q x :=
    ⟨y 0, y 1, y 2, y 3, eq_ix4 y⟩
  obtain rfl : a = 0 := Subsingleton.elim _ _
  obtain ⟨b, hb⟩ : ∃ b : Fin 2, (grid0.coords t 0).val = b.val := ⟨grid0.coords t 0, rfl⟩
  obtain ⟨s, hs⟩ : ∃ s : Fin 24, (grid0.coords t 1).val = s.val := ⟨grid0.coords t 1, rfl⟩
  refine (stored_apply m c t b hb s hs o q x).trans ?_
  have e : ((cfg0.win 10).blk t).view.emb (ix4 0 o q x) = (ix4 b o ⟨16 * s.val + q.val, by omega⟩ x : S2x64x384x384.Idx) := by
    blk_ext [indices t]
  rw [e]
  rfl

end Cert.Dcn

end
-- ==== Proof.Dcn.Bilinear.lean ====
/- The mathematics of the claim over the reals. Sampling a zero-extended plane bilinearly at most one pixel from a grid point is a sum
   over the 3x3 neighbours with hat weights; nine such samples, one around each point of a 3x3 grid, are one 5x5 stencil. -/
module

public import proofs.«01_k».proof.Proof.Dcn.Spec
public import Mathlib.Tactic.Ring
public import Mathlib.Tactic.Linarith

@[expose] public section

noncomputable section

namespace Cert.Dcn

/-- The hat weights over the reals. -/
def hatR (s : Fin 3) (d : ℝ) : ℝ :=
  match s with
  | 0 => max (0 - d) 0
  | 1 => 1 - max d (-d)
  | 2 => max d 0

/-- The coercion keeps maxima. -/
theorem coe_max' (a b : ℝ) : ((max a b : ℝ) : EReal) = max (a : EReal) b := EReal.coe_strictMono.monotone.map_max

/-- A hat weight of a real offset is the real hat weight. -/
theorem hatAt_coe (s : Fin 3) (d : ℝ) : hatAt s (d : EReal) = (hatR s d : EReal) := by
  match s with
  | 0 => show max (0 - (d : EReal)) 0 = ((max (0 - d) 0 : ℝ) : EReal); rw [coe_max', EReal.coe_sub, EReal.coe_zero]
  | 1 => show 1 - max (d : EReal) (-d) = ((1 - max d (-d) : ℝ) : EReal); rw [EReal.coe_sub, coe_max', EReal.coe_neg, EReal.coe_one]
  | 2 => show max (d : EReal) 0 = ((max d 0 : ℝ) : EReal); rw [coe_max', EReal.coe_zero]

/-- Linear interpolation at `n0 + d`, `|d| ≤ 1`, between the two grid lines around it is the sum over the three lines around `n0` with
    the hat weights. -/
theorem lerp_eq (g : ℤ → ℝ) (n0 : ℤ) (d : ℝ) (h1 : -1 ≤ d) (h2 : d ≤ 1) :
    (1 - ((n0 + d) - ⌊n0 + d⌋)) * g ⌊n0 + d⌋ + ((n0 + d) - ⌊n0 + d⌋) * g (⌊n0 + d⌋ + 1)
      = hatR 0 d * g (n0 - 1) + hatR 1 d * g n0 + hatR 2 d * g (n0 + 1) := by
  have e0 : hatR 0 d = max (0 - d) 0 := rfl
  have e1 : hatR 1 d = 1 - max d (-d) := rfl
  have e2 : hatR 2 d = max d 0 := rfl
  rw [e0, e1, e2]
  rcases lt_or_ge d 0 with hd | hd
  · have hf : ⌊(n0 : ℝ) + d⌋ = n0 - 1 := by
      rw [Int.floor_eq_iff]; push_cast; constructor <;> linarith
    rw [hf, max_eq_left (by linarith), max_eq_right (by linarith), max_eq_right (by linarith), sub_add_cancel]
    push_cast
    ring
  · rw [max_eq_right (by linarith : 0 - d ≤ 0), max_eq_left (by linarith : -d ≤ d), max_eq_left hd]
    rcases lt_or_ge d 1 with hd1 | hd1
    · have hf : ⌊(n0 : ℝ) + d⌋ = n0 := by
        rw [Int.floor_eq_iff]; constructor <;> linarith
      rw [hf]
      ring
    · obtain rfl : d = 1 := le_antisymm h2 hd1
      have hf : ⌊(n0 : ℝ) + 1⌋ = n0 + 1 := by
        rw [Int.floor_eq_iff]; push_cast; constructor <;> linarith
      rw [hf]
      push_cast
      ring

/-- The fraction of a coordinate above its floor. -/
def frac (P : ℝ) : ℝ := P - ⌊P⌋

/-- The bilinear sample of `f` at `(P, Q)`: the four corners around it, each times its weight. -/
def bilinear (f : ℤ → ℤ → ℝ) (P Q : ℝ) : ℝ :=
  f ⌊P⌋ ⌊Q⌋ * ((1 - frac P) * (1 - frac Q)) + f ⌊P⌋ (⌊Q⌋ + 1) * ((1 - frac P) * frac Q)
    + f (⌊P⌋ + 1) ⌊Q⌋ * (frac P * (1 - frac Q)) + f (⌊P⌋ + 1) (⌊Q⌋ + 1) * (frac P * frac Q)

/-- The bilinear sample within one pixel of `(y, x)` as a sum over the nine neighbours. -/
theorem bilinear_eq (f : ℤ → ℤ → ℝ) (y x : ℤ) (dy dx : ℝ) (hy1 : -1 ≤ dy) (hy2 : dy ≤ 1) (hx1 : -1 ≤ dx) (hx2 : dx ≤ 1) :
    bilinear f (y + dy) (x + dx)
      = ∑ s : Fin 3, ∑ t : Fin 3, hatR s dy * hatR t dx * f (y + s.val - 1) (x + t.val - 1) := by
  have row : ∀ n : ℤ, (1 - frac (x + dx)) * f n ⌊(x : ℝ) + dx⌋ + frac (x + dx) * f n (⌊(x : ℝ) + dx⌋ + 1)
      = hatR 0 dx * f n (x - 1) + hatR 1 dx * f n x + hatR 2 dx * f n (x + 1) := fun n => lerp_eq (f n) x dx hx1 hx2
  have col := lerp_eq (fun n => hatR 0 dx * f n (x - 1) + hatR 1 dx * f n x + hatR 2 dx * f n (x + 1)) y dy hy1 hy2
  have e0 : ∀ n : ℤ, n + ((0 : Fin 3).val : ℤ) - 1 = n - 1 := fun n => by simp
  have e1 : ∀ n : ℤ, n + ((1 : Fin 3).val : ℤ) - 1 = n := fun n => by simp
  have e2 : ∀ n : ℤ, n + ((2 : Fin 3).val : ℤ) - 1 = n + 1 := fun n => by simp; omega
  simp only [Fin.sum_univ_three, e0, e1, e2]
  refine Eq.trans ?_ (col.trans (by ring))
  rw [← row, ← row]
  unfold bilinear
  have ey : (y : ℝ) + dy - ⌊(y : ℝ) + dy⌋ = frac (y + dy) := rfl
  rw [ey]
  ring

/-- The stencil over real weights and neighbours, as a sum over the nine points and each one's nine neighbours. -/
theorem stencil_coe (o : Fin 112 → ℝ) (g : Fin 4) (N : Fin 5 → Fin 5 → ℝ) :
    stencilAt (fun n => (o n : EReal)) g (fun v u => (N v u : EReal))
      = ((∑ ky : Fin 3, ∑ kx : Fin 3, ∑ s : Fin 3, ∑ t : Fin 3,
          o ⟨27 * g.val + 18 + (3 * ky.val + kx.val), by omega⟩
            * hatR s (o ⟨27 * g.val + 2 * (3 * ky.val + kx.val) + 1, by omega⟩)
            * hatR t (o ⟨27 * g.val + 2 * (3 * ky.val + kx.val), by omega⟩)
            * N ⟨ky.val + s.val, by omega⟩ ⟨kx.val + t.val, by omega⟩ : ℝ) : EReal) := by
  obtain ⟨T, hT⟩ : ∃ T : Fin 3 → Fin 3 → Fin 3 → Fin 3 → ℝ, T = fun ky s kx t =>
      o ⟨27 * g.val + 18 + (3 * ky.val + kx.val), by omega⟩
            * hatR s (o ⟨27 * g.val + 2 * (3 * ky.val + kx.val) + 1, by omega⟩)
            * hatR t (o ⟨27 * g.val + 2 * (3 * ky.val + kx.val), by omega⟩) := ⟨_, rfl⟩
  have term : ∀ ky s kx t : Fin 3, termAt (fun n => (o n : EReal)) g ky s kx t = (T ky s kx t : EReal) := fun ky s kx t => by
    unfold termAt
    rw [hatAt_coe, hatAt_coe, ← EReal.coe_mul, ← EReal.coe_mul, hT]
  have back : ∀ ky s kx t : Fin 3, o ⟨27 * g.val + 18 + (3 * ky.val + kx.val), by omega⟩
            * hatR s (o ⟨27 * g.val + 2 * (3 * ky.val + kx.val) + 1, by omega⟩)
            * hatR t (o ⟨27 * g.val + 2 * (3 * ky.val + kx.val), by omega⟩) = T ky s kx t := fun ky s kx t => by rw [hT]
  simp only [back]
  clear back hT
  unfold stencilAt weightAt
  simp only [term, meets, List.flatMap_cons, List.flatMap_nil, List.map_cons, List.map_nil, List.cons_append, List.nil_append,
    List.append_nil, List.sum_cons, List.sum_nil, add_zero, ← EReal.coe_add, ← EReal.coe_mul]
  congr 1
  simp only [Fin.sum_univ_three]
  simp only [Fin.isValue, Fin.val_zero, Fin.val_one, Fin.val_two, Nat.reduceAdd, Fin.zero_eta, Fin.mk_one, Fin.reduceFinMk]
  ring

end Cert.Dcn

end
-- ==== Proof.Dcn.Lines.lean ====
/- The two grid lines around a sampling coordinate, as words: the clamped line numbers and the 0/1 factors of the lines inside. -/
module

public import proofs.«01_k».proof.Proof.Dcn.Bilinear

@[expose] public section

noncomputable section

namespace Cert.Dcn

open Idealize.ShloMosaic

/-- The line at or below a coordinate, as a word. -/
def lineAt (P : EReal) : BitVec 32 := FloatOps.fptosi (F := Ideal) (φ := .f32) 32 (Ideal.liftRound Int.floor P)

/-- A line number brought into the image. -/
def clampAt (w : BitVec 32) : BitVec 32 := IntOp.minsi (IntOp.maxsi w 0#32) 383#32

/-- 1 for a line of the image, 0 for a line outside. -/
def insideAt (w : BitVec 32) : EReal :=
  FloatOps.uitofp (F := Ideal) .f32 (IntOp.andi (IntOp.cmpi .sge w 0#32) (IntOp.cmpi .slt w 384#32))

/-- The line of a real coordinate is its floor. -/
theorem lineAt_coe (P : ℝ) (h1 : -3 ≤ ⌊P⌋) (h2 : ⌊P⌋ ≤ 400) : lineAt (P : EReal) = BitVec.ofInt 32 ⌊P⌋ := by
  show Ideal.fptosi 32 (((⌊P⌋ : ℝ)) : EReal) = _
  unfold Ideal.fptosi
  rw [Ideal.toIntClamped_coe, Int.floor_intCast, Int.ceil_intCast, ite_self]
  congr 1
  norm_num
  omega

/-- The words of the line numbers that occur, decided one by one. -/
theorem words : ∀ k : Fin 405,
    (clampAt (BitVec.ofInt 32 ((k.val : ℤ) - 3))).toInt.toNat = (min (max ((k.val : ℤ) - 3) 0) 383).toNat
    ∧ IntOp.andi (IntOp.cmpi .sge (BitVec.ofInt 32 ((k.val : ℤ) - 3)) 0#32) (IntOp.cmpi .slt (BitVec.ofInt 32 ((k.val : ℤ) - 3)) 384#32)
      = (if 0 ≤ (k.val : ℤ) - 3 ∧ (k.val : ℤ) - 3 < 384 then 1#1 else 0#1)
    ∧ BitVec.ofInt 32 ((k.val : ℤ) - 3) + 1#32 = BitVec.ofInt 32 ((k.val : ℤ) - 3 + 1) := by
  decide +kernel

/-- The image line a line number is clamped to. -/
def lineIn (n : ℤ) : Fin 384 := ⟨(min (max n 0) 383).toNat, by omega⟩

/-- A clipped line is a row or column of the image. -/
theorem clampAt_ofInt (n : ℤ) (h1 : -3 ≤ n) (h2 : n ≤ 401) : (clampAt (BitVec.ofInt 32 n)).toInt.toNat = (lineIn n).val := by
  have h := (words ⟨(n + 3).toNat, by omega⟩).1
  have e : (((n + 3).toNat : ℕ) : ℤ) - 3 = n := by omega
  simp only [e] at h
  exact h

/-- Whether a line is inside, as a number. -/
theorem insideAt_ofInt (n : ℤ) (h1 : -3 ≤ n) (h2 : n ≤ 401) :
    insideAt (BitVec.ofInt 32 n) = (((if 0 ≤ n ∧ n < 384 then 1 else 0 : ℝ)) : EReal) := by
  have h := (words ⟨(n + 3).toNat, by omega⟩).2.1
  have e : (((n + 3).toNat : ℕ) : ℤ) - 3 = n := by omega
  simp only [e] at h
  unfold insideAt
  rw [h]
  split
  · show (((1#1).toNat : ℝ) : EReal) = _; simp
  · show (((0#1).toNat : ℝ) : EReal) = _; simp

/-- The next line. -/
theorem next_ofInt (n : ℤ) (h1 : -3 ≤ n) (h2 : n ≤ 400) : BitVec.ofInt 32 n + 1#32 = BitVec.ofInt 32 (n + 1) := by
  have h := (words ⟨(n + 3).toNat, by omega⟩).2.2
  have e : (((n + 3).toNat : ℕ) : ℤ) - 3 = n := by omega
  simpa only [e] using h

/-- A plane of reals, read as 0 outside. -/
def zextR (f : Fin 384 → Fin 384 → ℝ) (p q : ℤ) : ℝ :=
  if h : (0 ≤ p ∧ p < 384) ∧ 0 ≤ q ∧ q < 384 then f ⟨p.toNat, by omega⟩ ⟨q.toNat, by omega⟩ else 0

/-- Extension by zeros commutes with the coercion. -/
theorem zext_coe (f : Fin 384 → Fin 384 → ℝ) (p q : ℤ) : zext (fun y z => (f y z : EReal)) p q = (zextR f p q : EReal) := by
  unfold zext zextR
  split
  · rfl
  · rfl

/-- A corner read at the clamped lines, its weight set to 0 when a line lies outside, is the corner of the zero-extended plane. -/
theorem corner_eq (f : Fin 384 → Fin 384 → ℝ) (p q : ℤ) (a b : ℝ) :
    f (lineIn p) (lineIn q) * ((a * (if 0 ≤ p ∧ p < 384 then 1 else 0)) * (b * (if 0 ≤ q ∧ q < 384 then 1 else 0)))
      = zextR f p q * (a * b) := by
  unfold zextR
  by_cases hp : 0 ≤ p ∧ p < 384
  · by_cases hq : 0 ≤ q ∧ q < 384
    · have ep : lineIn p = ⟨p.toNat, by omega⟩ := Fin.ext (by show (min (max p 0) 383).toNat = p.toNat; omega)
      have eq : lineIn q = ⟨q.toNat, by omega⟩ := Fin.ext (by show (min (max q 0) 383).toNat = q.toNat; omega)
      rw [if_pos hp, if_pos hq, dif_pos ⟨hp, hq⟩, ep, eq, mul_one, mul_one]
    · rw [if_neg hq, dif_neg (fun h => hq h.2)]; simp
  · rw [if_neg hp, dif_neg (fun h => hp h.1)]; simp

end Cert.Dcn

end
-- ==== Proof.Dcn.RefGather.lean ====
/- The reference's corner reads: a gather whose index vector is (image, row, column, group). -/
module

public import proofs.«01_k».proof.Proof.Dcn.Lines
public import proofs.«01_k».proof.Proof.Gen.ReferenceIdeal.Read

@[expose] public section

noncomputable section

namespace Cert.Dcn

open Cert.ReferenceIdeal Cert.ReferenceIdeal.Gen Cert.ReferenceIdeal.Read Idealize.ShloMosaic Idealize.ShloMosaic.TcCoe

set_option maxRecDepth 16384

variable (x : Vec Ideal S2x64x384x384 .f32) (wv : Vec Ideal S64x64 .f32) (bv : Vec Ideal S64 .f32) (wd : Vec Ideal S64x1x3x3 .f32)
  (bd : Vec Ideal S64 .f32) (wom : Vec Ideal S64x112 .f32) (bom : Vec Ideal S112 .f32)

/-- The index vector's component for a corner. -/
theorem gather_siIdx (b : Fin 2) (p q : Fin 384) (g : Fin 4) (k : Fin 9) (r : Fin 16) (j : Fin 4) :
    GatherDims.siIdx gather_S2x384x384x4x16_S2x384x384x4x9x4_S2x384x384x4x9x16_5_0123_n_n_0123_5_111116 (ix6 b p q g k r) j = ix6 b p q g k j := by
  funext c
  match c with
  | ⟨0, _⟩ => rfl
  | ⟨1, _⟩ => rfl
  | ⟨2, _⟩ => rfl
  | ⟨3, _⟩ => rfl
  | ⟨4, _⟩ => rfl
  | ⟨5, _⟩ => rfl

/-- A corner read: the value at the corner's image, row, column and group. -/
theorem gather_at {α : Type} (v : S2x384x384x4x16.Idx → α) (I : IVec S2x384x384x4x9x4 32) (b : Fin 2) (p q : Fin 384) (g : Fin 4)
    (k : Fin 9) (r : Fin 16) (n0 : Fin 2) (n1 n2 : Fin 384) (n3 : Fin 4) (h0 : (I (ix6 b p q g k 0)).toInt.toNat = n0.val)
    (h1 : (I (ix6 b p q g k 1)).toInt.toNat = n1.val) (h2 : (I (ix6 b p q g k 2)).toInt.toNat = n2.val)
    (h3 : (I (ix6 b p q g k 3)).toInt.toNat = n3.val) :
    Host.gather gather_S2x384x384x4x16_S2x384x384x4x9x4_S2x384x384x4x9x16_5_0123_n_n_0123_5_111116 v I (ix6 b p q g k r)
      = v (ix5 n0 n1 n2 n3 r) := by
  unfold Host.gather
  refine congrArg v (funext fun a => Fin.ext ?_)
  match a with
  | ⟨0, _⟩ =>
    refine (congrArg (fun w => min (I w).toInt.toNat 1 + 0 + 0) (gather_siIdx b p q g k r 0)).trans ?_
    show min (I (ix6 b p q g k 0)).toInt.toNat 1 + 0 + 0 = n0.val
    rw [h0]
    omega
  | ⟨1, _⟩ =>
    refine (congrArg (fun w => min (I w).toInt.toNat 383 + 0 + 0) (gather_siIdx b p q g k r 1)).trans ?_
    show min (I (ix6 b p q g k 1)).toInt.toNat 383 + 0 + 0 = n1.val
    rw [h1]
    omega
  | ⟨2, _⟩ =>
    refine (congrArg (fun w => min (I w).toInt.toNat 383 + 0 + 0) (gather_siIdx b p q g k r 2)).trans ?_
    show min (I (ix6 b p q g k 2)).toInt.toNat 383 + 0 + 0 = n2.val
    rw [h2]
    omega
  | ⟨3, _⟩ =>
    refine (congrArg (fun w => min (I w).toInt.toNat 3 + 0 + 0) (gather_siIdx b p q g k r 3)).trans ?_
    show min (I (ix6 b p q g k 3)).toInt.toNat 3 + 0 + 0 = n3.val
    rw [h3]
    omega
  | ⟨4, _⟩ =>
    show 0 + 0 + r.val = r.val
    omega

/-- An array of words with one more axis of a single entry. -/
abbrev unitAxis (Y : IVec S2x384x384x4x9 32) : IVec S2x384x384x4x9x1 32 :=
  broadcastInDim S2x384x384x4x9x1 ![0, 1, 2, 3, 4] bcast_S2x384x384x4x9_S2x384x384x4x9x1_0_1_2_3_4 Y

/-- The index vectors of a corner: image, row, column and group. -/
abbrev cornerIdx (Y X : IVec S2x384x384x4x9 32) : IVec S2x384x384x4x9x4 32 :=
  concatenate S2x384x384x4x9x4 5 [⟨S2x384x384x4x9x1, unitAxis (iotaInDim S2x384x384x4x9 32 0)⟩, ⟨S2x384x384x4x9x1, unitAxis Y⟩,
    ⟨S2x384x384x4x9x1, unitAxis X⟩, ⟨S2x384x384x4x9x1, unitAxis (iotaInDim S2x384x384x4x9 32 3)⟩]
    concatenates_S2x384x384x4x9x1_S2x384x384x4x9x1_S2x384x384x4x9x1_S2x384x384x4x9x1_S2x384x384x4x9x4_d5

/-- The four components of a corner's index vector. -/
theorem corner_words (Y X : IVec S2x384x384x4x9 32) (b : Fin 2) (p q : Fin 384) (g : Fin 4) (k : Fin 9) :
    cornerIdx Y X (ix6 b p q g k 0) = BitVec.ofNat 32 b.val ∧ cornerIdx Y X (ix6 b p q g k 1) = Y (ix5 b p q g k)
      ∧ cornerIdx Y X (ix6 b p q g k 2) = X (ix5 b p q g k) ∧ cornerIdx Y X (ix6 b p q g k 3) = BitVec.ofNat 32 g.val := by
  refine ⟨?_, ?_, ?_, ?_⟩ <;> unfold cornerIdx unitAxis <;> pointwise

end Cert.Dcn

end
-- ==== Proof.Dcn.RefLines.lean ====
/- The reference's grid lines and their weights, as functions of the sampling coordinate. -/
module

public import proofs.«01_k».proof.Proof.Dcn.Lines
public import proofs.«01_k».proof.Proof.Gen.ReferenceIdeal.Read

@[expose] public section

noncomputable section

namespace Cert.Dcn

open Cert.ReferenceIdeal Cert.ReferenceIdeal.Gen Cert.ReferenceIdeal.Read Idealize.ShloMosaic Idealize.ShloMosaic.TcCoe

set_option maxRecDepth 16384

variable (x : Vec Ideal S2x64x384x384 .f32) (wv : Vec Ideal S64x64 .f32) (bv : Vec Ideal S64 .f32) (wd : Vec Ideal S64x1x3x3 .f32)
  (bd : Vec Ideal S64 .f32) (wom : Vec Ideal S64x112 .f32) (bom : Vec Ideal S112 .f32)

/-- The weight of the line at or below a coordinate, 0 when the line lies outside. -/
def lowAt (P : EReal) : EReal := (1 - (P - Ideal.liftRound Int.floor P)) * insideAt (lineAt P)

/-- The weight of the next line, 0 when the line lies outside. -/
def highAt (P : EReal) : EReal := (P - Ideal.liftRound Int.floor P) * insideAt (lineAt P + 1#32)

/-- The lower column of a point. -/
theorem ref_x0 (i : S2x384x384x4x9.Idx) :
    val_main_v107 (F := Ideal) x wd bd wom bom i = clampAt (lineAt (val_main_v85 (F := Ideal) x wd bd wom bom i)) := by
  simp only [val_main_v107_apply, val_main_v105_apply, val_main_v104_apply, val_main_c_5_apply, val_main_v106_apply, val_main_c_6_apply, val_main_v99_apply, val_main_v97_apply]
  generalize val_main_v85 (F := Ideal) x wd bd wom bom i = P
  rfl

/-- The upper column of a point. -/
theorem ref_x1 (i : S2x384x384x4x9.Idx) :
    val_main_v118 (F := Ideal) x wd bd wom bom i = clampAt (lineAt (val_main_v85 (F := Ideal) x wd bd wom bom i) + 1#32) := by
  simp only [val_main_v118_apply, val_main_v116_apply, val_main_v115_apply, val_main_c_9_apply, val_main_v117_apply, val_main_c_10_apply, val_main_v103_apply, val_main_v102_apply, val_main_c_apply, val_main_v99_apply, val_main_v97_apply]
  generalize val_main_v85 (F := Ideal) x wd bd wom bom i = P
  rfl

/-- The weight of the lower column. -/
theorem ref_xw0 (i : S2x384x384x4x9.Idx) :
    val_main_v114 (F := Ideal) x wd bd wom bom i = lowAt (val_main_v85 (F := Ideal) x wd bd wom bom i) := by
  simp only [val_main_v114_apply, val_main_v101_apply, val_main_v100_apply, val_main_cst_4_apply, val_main_v98_apply, val_main_v113_apply, val_main_v112_apply, val_main_v109_apply, val_main_v108_apply, val_main_c_7_apply, val_main_v111_apply, val_main_v110_apply, val_main_c_8_apply, val_main_v99_apply, val_main_v97_apply]
  generalize val_main_v85 (F := Ideal) x wd bd wom bom i = P
  show (Ideal.ofBits .f32 0x3F800000#32 - (P - Ideal.liftRound Int.floor P)) * insideAt (lineAt P) = lowAt P
  rw [Ideal.ofBits_one_f32]; rfl

/-- The weight of the upper column. -/
theorem ref_xw1 (i : S2x384x384x4x9.Idx) :
    val_main_v125 (F := Ideal) x wd bd wom bom i = highAt (val_main_v85 (F := Ideal) x wd bd wom bom i) := by
  simp only [val_main_v125_apply, val_main_v98_apply, val_main_v124_apply, val_main_v123_apply, val_main_v120_apply, val_main_v119_apply, val_main_c_11_apply, val_main_v122_apply, val_main_v121_apply, val_main_c_12_apply, val_main_v103_apply, val_main_v102_apply, val_main_c_apply, val_main_v99_apply, val_main_v97_apply]
  generalize val_main_v85 (F := Ideal) x wd bd wom bom i = P
  rfl

/-- The lower row of a point. -/
theorem ref_y0 (i : S2x384x384x4x9.Idx) :
    val_main_v136 (F := Ideal) x wd bd wom bom i = clampAt (lineAt (val_main_v94 (F := Ideal) x wd bd wom bom i)) := by
  simp only [val_main_v136_apply, val_main_v134_apply, val_main_v133_apply, val_main_c_15_apply, val_main_v135_apply, val_main_c_16_apply, val_main_v128_apply, val_main_v126_apply]
  generalize val_main_v94 (F := Ideal) x wd bd wom bom i = P
  rfl

/-- The upper row of a point. -/
theorem ref_y1 (i : S2x384x384x4x9.Idx) :
    val_main_v147 (F := Ideal) x wd bd wom bom i = clampAt (lineAt (val_main_v94 (F := Ideal) x wd bd wom bom i) + 1#32) := by
  simp only [val_main_v147_apply, val_main_v145_apply, val_main_v144_apply, val_main_c_19_apply, val_main_v146_apply, val_main_c_20_apply, val_main_v132_apply, val_main_v131_apply, val_main_c_14_apply, val_main_v128_apply, val_main_v126_apply]
  generalize val_main_v94 (F := Ideal) x wd bd wom bom i = P
  rfl

/-- The weight of the lower row. -/
theorem ref_yw0 (i : S2x384x384x4x9.Idx) :
    val_main_v143 (F := Ideal) x wd bd wom bom i = lowAt (val_main_v94 (F := Ideal) x wd bd wom bom i) := by
  simp only [val_main_v143_apply, val_main_v130_apply, val_main_v129_apply, val_main_cst_13_apply, val_main_v127_apply, val_main_v142_apply, val_main_v141_apply, val_main_v138_apply, val_main_v137_apply, val_main_c_17_apply, val_main_v140_apply, val_main_v139_apply, val_main_c_18_apply, val_main_v128_apply, val_main_v126_apply]
  generalize val_main_v94 (F := Ideal) x wd bd wom bom i = P
  show (Ideal.ofBits .f32 0x3F800000#32 - (P - Ideal.liftRound Int.floor P)) * insideAt (lineAt P) = lowAt P
  rw [Ideal.ofBits_one_f32]; rfl

/-- The weight of the upper row. -/
theorem ref_yw1 (i : S2x384x384x4x9.Idx) :
    val_main_v154 (F := Ideal) x wd bd wom bom i = highAt (val_main_v94 (F := Ideal) x wd bd wom bom i) := by
  simp only [val_main_v154_apply, val_main_v127_apply, val_main_v153_apply, val_main_v152_apply, val_main_v149_apply, val_main_v148_apply, val_main_c_21_apply, val_main_v151_apply, val_main_v150_apply, val_main_c_22_apply, val_main_v132_apply, val_main_v131_apply, val_main_c_14_apply, val_main_v128_apply, val_main_v126_apply]
  generalize val_main_v94 (F := Ideal) x wd bd wom bom i = P
  rfl

end Cert.Dcn

end
-- ==== Proof.Dcn.RefCorners.lean ====
/- The four corners the reference reads for each point. -/
module

public import proofs.«01_k».proof.Proof.Dcn.RefGather
public import proofs.«01_k».proof.Proof.Dcn.RefLines

@[expose] public section

noncomputable section

namespace Cert.Dcn

open Cert.ReferenceIdeal Cert.ReferenceIdeal.Gen Cert.ReferenceIdeal.Read Idealize.ShloMosaic Idealize.ShloMosaic.TcCoe

set_option maxRecDepth 16384

variable (x : Vec Ideal S2x64x384x384 .f32) (wv : Vec Ideal S64x64 .f32) (bv : Vec Ideal S64 .f32) (wd : Vec Ideal S64x1x3x3 .f32)
  (bd : Vec Ideal S64 .f32) (wom : Vec Ideal S64x112 .f32) (bom : Vec Ideal S112 .f32)

variable (b : Fin 2) (p q : Fin 384) (g : Fin 4) (k : Fin 9) (r : Fin 16)

/-- A small number written as a word is read back. -/
theorem word_val (n : ℕ) (h : n < 2 ^ 31) : (BitVec.ofNat 32 n).toInt.toNat = n := by
  have e : (BitVec.ofNat 32 n).toInt = (n : ℤ) := by
    rw [BitVec.toInt_eq_toNat_cond, BitVec.toNat_ofNat, Nat.mod_eq_of_lt (by omega), if_pos (by omega)]
  rw [e]
  rfl

/-- A corner read times its weight. -/
theorem corner_value (v : Vec Ideal S2x384x384x4x16 .f32) (Y X : IVec S2x384x384x4x9 32) (wy wx : Vec Ideal S2x384x384x4x9 .f32)
    (m n : Fin 384) (hm : (Y (ix5 b p q g k)).toInt.toNat = m.val) (hn : (X (ix5 b p q g k)).toInt.toNat = n.val) :
    mulf (F := Ideal) (φ := .f32) (Host.gather gather_S2x384x384x4x16_S2x384x384x4x9x4_S2x384x384x4x9x16_5_0123_n_n_0123_5_111116 v (cornerIdx Y X))
      (broadcastInDim S2x384x384x4x9x16 ![0, 1, 2, 3, 4, 5] bcast_S2x384x384x4x9x1_S2x384x384x4x9x16_0_1_2_3_4_5
        (broadcastInDim S2x384x384x4x9x1 ![0, 1, 2, 3, 4] bcast_S2x384x384x4x9_S2x384x384x4x9x1_0_1_2_3_4 (mulf (F := Ideal) (φ := .f32) wy wx)))
      (ix6 b p q g k r) = v (ix5 b m n g r) * (wy (ix5 b p q g k) * wx (ix5 b p q g k)) := by
  obtain ⟨w0, w1, w2, w3⟩ := corner_words Y X b p q g k
  have e1 : Host.gather gather_S2x384x384x4x16_S2x384x384x4x9x4_S2x384x384x4x9x16_5_0123_n_n_0123_5_111116 v (cornerIdx Y X) (ix6 b p q g k r)
      = v (ix5 b m n g r) :=
    gather_at _ _ b p q g k r b m n g (by rw [w0]; exact word_val _ (by omega)) (by rw [w1]; exact hm) (by rw [w2]; exact hn)
      (by rw [w3]; exact word_val _ (by omega))
  have e2 : broadcastInDim S2x384x384x4x9x16 ![0, 1, 2, 3, 4, 5] bcast_S2x384x384x4x9x1_S2x384x384x4x9x16_0_1_2_3_4_5
        (broadcastInDim S2x384x384x4x9x1 ![0, 1, 2, 3, 4] bcast_S2x384x384x4x9_S2x384x384x4x9x1_0_1_2_3_4 (mulf (F := Ideal) (φ := .f32) wy wx))
        (ix6 b p q g k r) = wy (ix5 b p q g k) * wx (ix5 b p q g k) := by
    pointwise
  exact congrArg₂ (fun y z : EReal => y * z) e1 e2

/-- The corner at the lower row and the lower column, times its weight. -/
theorem ref_corner00 (m n : Fin 384)
    (hm : (val_main_v136 (F := Ideal) x wd bd wom bom (ix5 b p q g k)).toInt.toNat = m.val)
    (hn : (val_main_v107 (F := Ideal) x wd bd wom bom (ix5 b p q g k)).toInt.toNat = n.val) :
    val_main_v164 (F := Ideal) x wv bv wd bd wom bom (ix6 b p q g k r)
      = val_main_v5 (F := Ideal) x wv bv (ix5 b m n g r)
        * (val_main_v143 (F := Ideal) x wd bd wom bom (ix5 b p q g k) * val_main_v114 (F := Ideal) x wd bd wom bom (ix5 b p q g k)) :=
  corner_value b p q g k r (val_main_v5 (F := Ideal) x wv bv) _ _ _ _ m n hm hn

/-- The corner at the lower row and the upper column, times its weight. -/
theorem ref_corner01 (m n : Fin 384)
    (hm : (val_main_v136 (F := Ideal) x wd bd wom bom (ix5 b p q g k)).toInt.toNat = m.val)
    (hn : (val_main_v118 (F := Ideal) x wd bd wom bom (ix5 b p q g k)).toInt.toNat = n.val) :
    val_main_v174 (F := Ideal) x wv bv wd bd wom bom (ix6 b p q g k r)
      = val_main_v5 (F := Ideal) x wv bv (ix5 b m n g r)
        * (val_main_v143 (F := Ideal) x wd bd wom bom (ix5 b p q g k) * val_main_v125 (F := Ideal) x wd bd wom bom (ix5 b p q g k)) :=
  corner_value b p q g k r (val_main_v5 (F := Ideal) x wv bv) _ _ _ _ m n hm hn

/-- The corner at the upper row and the lower column, times its weight. -/
theorem ref_corner10 (m n : Fin 384)
    (hm : (val_main_v147 (F := Ideal) x wd bd wom bom (ix5 b p q g k)).toInt.toNat = m.val)
    (hn : (val_main_v107 (F := Ideal) x wd bd wom bom (ix5 b p q g k)).toInt.toNat = n.val) :
    val_main_v184 (F := Ideal) x wv bv wd bd wom bom (ix6 b p q g k r)
      = val_main_v5 (F := Ideal) x wv bv (ix5 b m n g r)
        * (val_main_v154 (F := Ideal) x wd bd wom bom (ix5 b p q g k) * val_main_v114 (F := Ideal) x wd bd wom bom (ix5 b p q g k)) :=
  corner_value b p q g k r (val_main_v5 (F := Ideal) x wv bv) _ _ _ _ m n hm hn

/-- The corner at the upper row and the upper column, times its weight. -/
theorem ref_corner11 (m n : Fin 384)
    (hm : (val_main_v147 (F := Ideal) x wd bd wom bom (ix5 b p q g k)).toInt.toNat = m.val)
    (hn : (val_main_v118 (F := Ideal) x wd bd wom bom (ix5 b p q g k)).toInt.toNat = n.val) :
    val_main_v194 (F := Ideal) x wv bv wd bd wom bom (ix6 b p q g k r)
      = val_main_v5 (F := Ideal) x wv bv (ix5 b m n g r)
        * (val_main_v154 (F := Ideal) x wd bd wom bom (ix5 b p q g k) * val_main_v125 (F := Ideal) x wd bd wom bom (ix5 b p q g k)) :=
  corner_value b p q g k r (val_main_v5 (F := Ideal) x wv bv) _ _ _ _ m n hm hn

end Cert.Dcn

end
-- ==== Proof.Dcn.RefCoords.lean ====
/- The reference's sampling coordinates and masks, from the predictor's channels. -/
module

public import proofs.«01_k».proof.Proof.Dcn.Lines
public import proofs.«01_k».proof.Proof.Gen.ReferenceIdeal.Read

@[expose] public section

noncomputable section

namespace Cert.Dcn

open Cert.ReferenceIdeal Cert.ReferenceIdeal.Gen Cert.ReferenceIdeal.Read Idealize.ShloMosaic Idealize.ShloMosaic.TcCoe

set_option maxRecDepth 16384

variable (x : Vec Ideal S2x64x384x384 .f32) (wv : Vec Ideal S64x64 .f32) (bv : Vec Ideal S64 .f32) (wd : Vec Ideal S64x1x3x3 .f32)
  (bd : Vec Ideal S64 .f32) (wom : Vec Ideal S64x112 .f32) (bom : Vec Ideal S112 .f32)

/-- The columns of the two offsets and of the mask of a point among the predictor's channels. -/
theorem ref_off (b : Fin 2) (p q : Fin 384) (g : Fin 4) (k : Fin 9) (d : Fin 2) :
    val_main_v63 (F := Ideal) x wd bd wom bom (ix6 b p q g k d)
      = val_main_v59 (F := Ideal) x wd bd wom bom (ix4 b p q ⟨27 * g.val + 2 * k.val + d.val, by omega⟩) := by
  unfold val_main_v63 val_main_v62 val_main_v61 val_main_v60
  generalize val_main_v59 (F := Ideal) x wd bd wom bom = y
  pointwise
  exact congrArg (fun n => y (ix4 b p q n)) (Fin.ext (by show g.val * 27 + (k.val * 2 + d.val) = 27 * g.val + 2 * k.val + d.val; omega))

/-- The masks. -/
theorem ref_mask (b : Fin 2) (p q : Fin 384) (g : Fin 4) (k : Fin 9) :
    val_main_v64 (F := Ideal) x wd bd wom bom (ix5 b p q g k)
      = val_main_v59 (F := Ideal) x wd bd wom bom (ix4 b p q ⟨27 * g.val + 18 + k.val, by omega⟩) := by
  unfold val_main_v64 val_main_v61 val_main_v60
  generalize val_main_v59 (F := Ideal) x wd bd wom bom = y
  pointwise
  exact congrArg (fun n => y (ix4 b p q n)) (Fin.ext (by show g.val * 27 + (18 + k.val) = 27 * g.val + 18 + k.val; omega))

/-- A trailing axis of one entry dropped. -/
theorem last_unit {α : Type} (y : S2x384x384x4x9x1.Idx → α) (h : S2x384x384x4x9x1.ShapeCasts S2x384x384x4x9) (b : Fin 2) (p q : Fin 384)
    (g : Fin 4) (k : Fin 9) : shapeCast S2x384x384x4x9 y h (ix5 b p q g k) = y (ix6 b p q g k 0) :=
  shapeCast_apply y h (ix5 b p q g k) (ix6 b p q g k 0) (by
    rw [Shape.rowMajor_val_six, Shape.rowMajor_val_five]
    show ((((b.val * 384 + p.val) * 384 + q.val) * 4 + g.val) * 9 + k.val) * 1 + 0 = (((b.val * 384 + p.val) * 384 + q.val) * 4 + g.val) * 9 + k.val
    omega)

/-- One component of every point's offset. -/
theorem offset_part {α : Type} (y : S2x384x384x4x9x2.Idx → α) (d : Fin 2)
    (hs : S2x384x384x4x9x2.Slices ![0, 0, 0, 0, 0, d.val] S2x384x384x4x9x1) (h : S2x384x384x4x9x1.ShapeCasts S2x384x384x4x9)
    (b : Fin 2) (p q : Fin 384) (g : Fin 4) (k : Fin 9) :
    shapeCast S2x384x384x4x9 (extractStridedSlice S2x384x384x4x9x1 ![0, 0, 0, 0, 0, d.val] y hs) h (ix5 b p q g k) = y (ix6 b p q g k d) :=
  (last_unit _ h b p q g k).trans (extractStridedSlice_apply _ y hs _ (ix6 b p q g k d) fun a => match a with
    | ⟨0, _⟩ => (Nat.zero_add _).symm
    | ⟨1, _⟩ => (Nat.zero_add _).symm
    | ⟨2, _⟩ => (Nat.zero_add _).symm
    | ⟨3, _⟩ => (Nat.zero_add _).symm
    | ⟨4, _⟩ => (Nat.zero_add _).symm
    | ⟨5, _⟩ => rfl)

/-- The column offsets. -/
theorem ref_v78 (b : Fin 2) (p q : Fin 384) (g : Fin 4) (k : Fin 9) :
    val_main_v78 (F := Ideal) x wd bd wom bom (ix5 b p q g k) = val_main_v63 (F := Ideal) x wd bd wom bom (ix6 b p q g k 0) := by
  unfold val_main_v78 val_main_v77
  exact offset_part _ 0 _ _ b p q g k

/-- The row offsets. -/
theorem ref_v87 (b : Fin 2) (p q : Fin 384) (g : Fin 4) (k : Fin 9) :
    val_main_v87 (F := Ideal) x wd bd wom bom (ix5 b p q g k) = val_main_v63 (F := Ideal) x wd bd wom bom (ix6 b p q g k 1) := by
  unfold val_main_v87 val_main_v86
  exact offset_part _ 1 _ _ b p q g k

/-- A small number written as a word and read as a float is the number. -/
theorem sitofp_nat (n : ℕ) (h : n < 2 ^ 31) : FloatOps.sitofp (F := Ideal) FTy.f32 (BitVec.ofNat 32 n) = ((n : ℝ) : EReal) := by
  show (((BitVec.ofNat 32 n).toInt : ℝ) : EReal) = _
  have e : (BitVec.ofNat 32 n).toInt = (n : ℤ) := by
    rw [BitVec.toInt_eq_toNat_cond, BitVec.toNat_ofNat, Nat.mod_eq_of_lt (by omega), if_pos (by omega)]
  rw [e]
  norm_cast

/-- The column shift of each of the nine points. -/
theorem ref_v76 (k : Fin 9) : val_main_v76 (F := Ideal) (ix1 k) = (((k.val % 3 : ℕ) : ℝ) : EReal) - 1 := by
  unfold val_main_v76 val_main_v75 val_main_v74 val_main_v73 val_main_cst_1
  pointwise
  rw [sitofp_nat _ (by omega)]

/-- The row shift of each of the nine points. -/
theorem ref_v72 (k : Fin 9) : val_main_v72 (F := Ideal) (ix1 k) = (((k.val / 3 : ℕ) : ℝ) : EReal) - 1 := by
  unfold val_main_v72 val_main_v71 val_main_v70 val_main_v69 val_main_cst_0
  pointwise
  rw [sitofp_nat _ (by omega)]

/-- The column number as a float. -/
theorem ref_v84 (b : Fin 2) (p q : Fin 384) (g : Fin 4) (k : Fin 9) :
    val_main_v84 (F := Ideal) (ix5 b p q g k) = ((q.val : ℝ) : EReal) := by
  unfold val_main_v84 val_main_v66 val_main_v65
  pointwise
  rw [sitofp_nat _ (by omega)]

/-- The row number as a float. -/
theorem ref_v93 (b : Fin 2) (p q : Fin 384) (g : Fin 4) (k : Fin 9) :
    val_main_v93 (F := Ideal) (ix5 b p q g k) = ((p.val : ℝ) : EReal) := by
  unfold val_main_v93 val_main_v68 val_main_v67
  pointwise
  rw [sitofp_nat _ (by omega)]

/-- The column shifts at every pixel. -/
theorem ref_v80 (b : Fin 2) (p q : Fin 384) (g : Fin 4) (k : Fin 9) :
    val_main_v80 (F := Ideal) (ix5 b p q g k) = val_main_v76 (F := Ideal) (ix1 k) := by
  unfold val_main_v80 val_main_v79
  generalize val_main_v76 (F := Ideal) = y
  pointwise

/-- The row shifts at every pixel. -/
theorem ref_v89 (b : Fin 2) (p q : Fin 384) (g : Fin 4) (k : Fin 9) :
    val_main_v89 (F := Ideal) (ix5 b p q g k) = val_main_v72 (F := Ideal) (ix1 k) := by
  unfold val_main_v89 val_main_v88
  generalize val_main_v72 (F := Ideal) = y
  pointwise

end Cert.Dcn

end
-- ==== Proof.Dcn.RefConv.lean ====
/- The reference's value planes and convolution. -/
module

public import proofs.«01_k».proof.Proof.Dcn.Lines
public import proofs.«01_k».proof.Proof.Gen.ReferenceIdeal.Read

@[expose] public section

noncomputable section

namespace Cert.Dcn

open Cert.ReferenceIdeal Cert.ReferenceIdeal.Gen Cert.ReferenceIdeal.Read Idealize.ShloMosaic Idealize.ShloMosaic.TcCoe

set_option maxRecDepth 16384

variable (x : Vec Ideal S2x64x384x384 .f32) (wv : Vec Ideal S64x64 .f32) (bv : Vec Ideal S64 .f32) (wd : Vec Ideal S64x1x3x3 .f32)
  (bd : Vec Ideal S64 .f32) (wom : Vec Ideal S64x112 .f32) (bom : Vec Ideal S112 .f32)

/-- The value map. -/
theorem ref_v4 (b : Fin 2) (p q : Fin 384) (c : Fin 64) : val_main_v4 (F := Ideal) x wv bv (ix4 b p q c) = valueAt x wv bv b c p q := by
  unfold val_main_v4 val_main_v3 val_main_v2 val_main_v1 val_main_v0
  pointwise
  unfold valueAt
  exact congrArg (· + bv (ix1 c)) (Finset.sum_congr rfl fun k _ => mul_comm _ _)

/-- The value map split into groups of sixteen channels. -/
theorem ref_v5 (b : Fin 2) (p q : Fin 384) (g : Fin 4) (r : Fin 16) :
    val_main_v5 (F := Ideal) x wv bv (ix5 b p q g r) = val_main_v4 (F := Ideal) x wv bv (ix4 b p q ⟨16 * g.val + r.val, by omega⟩) := by
  unfold val_main_v5
  generalize val_main_v4 (F := Ideal) x wv bv = y
  pointwise
  exact congrArg (fun n => y (ix4 b p q n)) (Fin.ext (by show g.val * 16 + r.val = 16 * g.val + r.val; omega))

/-- The input with a border of zeros. -/
theorem ref_pad (b : Fin 2) (c : Fin 64) (p q : Fin 386) :
    val_main_v6 (F := Ideal) x (ix4 b c p q) = zext (fun y z => x (ix4 b c y z)) ((p.val : ℤ) - 1) ((q.val : ℤ) - 1) := by
  unfold val_main_v6
  pointwise
  have e0 : val_main_cst (F := Ideal) (Shape.Idx.first h_S_) = 0 := Ideal.ofBits_zero_f32
  rw [e0]
  unfold zext
  by_cases h : (1 ≤ p.val ∧ p.val - 1 < 384) ∧ 1 ≤ q.val ∧ q.val - 1 < 384
  · rw [dif_pos h, dif_pos (by omega)]
    have ep : (⟨p.val - 1, h.1.2⟩ : Fin 384) = ⟨((p.val : ℤ) - 1).toNat, by omega⟩ := Fin.ext (by show p.val - 1 = ((p.val : ℤ) - 1).toNat; omega)
    have eq : (⟨q.val - 1, h.2.2⟩ : Fin 384) = ⟨((q.val : ℤ) - 1).toNat, by omega⟩ := Fin.ext (by show q.val - 1 = ((q.val : ℤ) - 1).toNat; omega)
    exact congrArg₂ (fun y z => x (ix4 b c y z)) ep eq
  · rw [dif_neg h, dif_neg (by omega)]

/-- One tap of the convolution: a shifted plane of the bordered input times one entry of the window. -/
theorem ref_tap (ky kx : Fin 3) (hy : S2x64x386x386.Slices ![0, 0, ky.val, kx.val] S2x64x384x384)
    (hw : S1x64x3x3.Slices ![0, 0, ky.val, kx.val] S1x64x1x1) (b : Fin 2) (c : Fin 64) (p q : Fin 384) :
    mulf (F := Ideal) (φ := .f32) (extractStridedSlice S2x64x384x384 ![0, 0, ky.val, kx.val] (val_main_v6 (F := Ideal) x) hy)
      (broadcastInDim S2x64x384x384 ![0, 1, 2, 3] bcast_S1x64x1x1_S2x64x384x384_0_1_2_3
        (extractStridedSlice S1x64x1x1 ![0, 0, ky.val, kx.val] (val_main_v7 (F := Ideal) wd) hw)) (ix4 b c p q)
      = tapAt x wd b c p q ky kx := by
  have ey : extractStridedSlice S2x64x384x384 ![0, 0, ky.val, kx.val] (val_main_v6 (F := Ideal) x) hy (ix4 b c p q)
      = val_main_v6 (F := Ideal) x (ix4 b c ⟨ky.val + p.val, by omega⟩ ⟨kx.val + q.val, by omega⟩) :=
    extractStridedSlice_apply _ _ hy _ _ fun a => match a with
      | ⟨0, _⟩ => (Nat.zero_add _).symm
      | ⟨1, _⟩ => (Nat.zero_add _).symm
      | ⟨2, _⟩ => rfl
      | ⟨3, _⟩ => rfl
  have ew : extractStridedSlice S1x64x1x1 ![0, 0, ky.val, kx.val] (val_main_v7 (F := Ideal) wd) hw (ix4 0 c 0 0) = wd (ix4 c 0 ky kx) := by
    refine (extractStridedSlice_apply _ _ hw _ (ix4 0 c ky kx) fun a => match a with
      | ⟨0, _⟩ => rfl
      | ⟨1, _⟩ => (Nat.zero_add _).symm
      | ⟨2, _⟩ => rfl
      | ⟨3, _⟩ => rfl).trans ?_
    unfold val_main_v7
    pointwise
  have eb : ∀ y : S1x64x1x1.Idx → EReal, broadcastInDim S2x64x384x384 ![0, 1, 2, 3] bcast_S1x64x1x1_S2x64x384x384_0_1_2_3 y (ix4 b c p q)
      = y (ix4 0 c 0 0) := fun y => by pointwise
  refine (congrArg₂ (fun y z : EReal => y * z) ey ((eb _).trans ew)).trans ?_
  rw [ref_pad]
  unfold tapAt
  exact congrArg₂ (fun y z => zext (fun y z => x (ix4 b c y z)) y z * wd (ix4 c 0 ky kx)) (by push_cast; omega) (by push_cast; omega)

/-- The convolution: the reference starts its sum at the bias. -/
theorem ref_conv (b : Fin 2) (c : Fin 64) (p q : Fin 384) :
    val_main_v54 (F := Ideal) x wd bd (ix4 b c p q) = convAt x wd bd b c p q := by
  have eb : val_main_v13 (F := Ideal) bd (ix4 b c p q) = bd (ix1 c) := by
    unfold val_main_v13 val_main_v8
    pointwise
  have e : val_main_v54 (F := Ideal) x wd bd (ix4 b c p q) = bd (ix1 c) + tapAt x wd b c p q 0 0 + tapAt x wd b c p q 0 1
      + tapAt x wd b c p q 0 2 + tapAt x wd b c p q 1 0 + tapAt x wd b c p q 1 1 + tapAt x wd b c p q 1 2 + tapAt x wd b c p q 2 0
      + tapAt x wd b c p q 2 1 + tapAt x wd b c p q 2 2 := by
    have t := fun ky kx hy hw => ref_tap x wd ky kx hy hw b c p q
    rw [← eb, ← t 0 0 slices_S2x64x386x386_S2x64x384x384_0_0_0_0 slices_S1x64x3x3_S1x64x1x1_0_0_0_0,
      ← t 0 1 slices_S2x64x386x386_S2x64x384x384_0_0_0_1 slices_S1x64x3x3_S1x64x1x1_0_0_0_1,
      ← t 0 2 slices_S2x64x386x386_S2x64x384x384_0_0_0_2 slices_S1x64x3x3_S1x64x1x1_0_0_0_2,
      ← t 1 0 slices_S2x64x386x386_S2x64x384x384_0_0_1_0 slices_S1x64x3x3_S1x64x1x1_0_0_1_0,
      ← t 1 1 slices_S2x64x386x386_S2x64x384x384_0_0_1_1 slices_S1x64x3x3_S1x64x1x1_0_0_1_1,
      ← t 1 2 slices_S2x64x386x386_S2x64x384x384_0_0_1_2 slices_S1x64x3x3_S1x64x1x1_0_0_1_2,
      ← t 2 0 slices_S2x64x386x386_S2x64x384x384_0_0_2_0 slices_S1x64x3x3_S1x64x1x1_0_0_2_0,
      ← t 2 1 slices_S2x64x386x386_S2x64x384x384_0_0_2_1 slices_S1x64x3x3_S1x64x1x1_0_0_2_1,
      ← t 2 2 slices_S2x64x386x386_S2x64x384x384_0_0_2_2 slices_S1x64x3x3_S1x64x1x1_0_0_2_2]
    rfl
  rw [e]
  unfold convAt
  ac_rfl

/-- The predictor's outputs. -/
theorem ref_om (b : Fin 2) (p q : Fin 384) (n : Fin 112) :
    val_main_v59 (F := Ideal) x wd bd wom bom (ix4 b p q n) = omAt x wd bd wom bom b p q n := by
  have e : val_main_v59 (F := Ideal) x wd bd wom bom (ix4 b p q n)
      = (∑ k : Fin 64, val_main_v54 (F := Ideal) x wd bd (ix4 b k p q) * wom (ix2 k n)) + bom (ix1 n) := by
    unfold val_main_v59 val_main_v58 val_main_v57 val_main_v56 val_main_v55
    generalize val_main_v54 (F := Ideal) x wd bd = y
    pointwise
  rw [e]
  unfold omAt
  refine congrArg (· + bom (ix1 n)) (Finset.sum_congr rfl fun k _ => ?_)
  rw [ref_conv, mul_comm]

end Cert.Dcn

end
-- ==== Proof.Dcn.RefSample.lean ====
/- A point of the reference: the bilinear sample at its row and column. -/
module

public import proofs.«01_k».proof.Proof.Dcn.RefCorners
public import proofs.«01_k».proof.Proof.Dcn.RefCoords
public import proofs.«01_k».proof.Proof.Dcn.RefConv

@[expose] public section

noncomputable section

namespace Cert.Dcn

open Cert.ReferenceIdeal Cert.ReferenceIdeal.Gen Cert.ReferenceIdeal.Read Idealize.ShloMosaic Idealize.ShloMosaic.TcCoe

set_option maxRecDepth 16384

variable (x : Vec Ideal S2x64x384x384 .f32) (wv : Vec Ideal S64x64 .f32) (bv : Vec Ideal S64 .f32) (wd : Vec Ideal S64x1x3x3 .f32)
  (bd : Vec Ideal S64 .f32) (wom : Vec Ideal S64x112 .f32) (bom : Vec Ideal S112 .f32)

variable (b : Fin 2) (p q : Fin 384) (g : Fin 4) (k : Fin 9) (r : Fin 16)

/-- The weights over the reals. -/
theorem lowAt_coe (P : ℝ) (h1 : -3 ≤ ⌊P⌋) (h2 : ⌊P⌋ ≤ 400) :
    lowAt (P : EReal) = (((1 - frac P) * (if 0 ≤ ⌊P⌋ ∧ ⌊P⌋ < 384 then 1 else 0) : ℝ) : EReal) := by
  unfold lowAt
  rw [lineAt_coe P h1 h2, insideAt_ofInt _ h1 (by omega), Ideal.liftRound_coe, ← EReal.coe_one, ← EReal.coe_sub, ← EReal.coe_sub, ← EReal.coe_mul]
  rfl

/-- The weight of the next line at a real coordinate. -/
theorem highAt_coe (P : ℝ) (h1 : -3 ≤ ⌊P⌋) (h2 : ⌊P⌋ ≤ 400) :
    highAt (P : EReal) = ((frac P * (if 0 ≤ ⌊P⌋ + 1 ∧ ⌊P⌋ + 1 < 384 then 1 else 0) : ℝ) : EReal) := by
  unfold highAt
  rw [lineAt_coe P h1 h2, next_ofInt _ h1 h2, insideAt_ofInt _ (by omega) (by omega), Ideal.liftRound_coe, ← EReal.coe_sub, ← EReal.coe_mul]
  rfl

/-- The reference's four corners are the bilinear sample of the zero-extended plane. -/
theorem ref_sample (V : Fin 384 → Fin 384 → ℝ) (hV : ∀ m n, val_main_v5 (F := Ideal) x wv bv (ix5 b m n g r) = (V m n : EReal)) (P Q : ℝ)
    (hP : val_main_v94 (F := Ideal) x wd bd wom bom (ix5 b p q g k) = (P : EReal))
    (hQ : val_main_v85 (F := Ideal) x wd bd wom bom (ix5 b p q g k) = (Q : EReal))
    (hP1 : -3 ≤ ⌊P⌋) (hP2 : ⌊P⌋ ≤ 400) (hQ1 : -3 ≤ ⌊Q⌋) (hQ2 : ⌊Q⌋ ≤ 400) :
    val_main_v197 (F := Ideal) x wv bv wd bd wom bom (ix6 b p q g k r) = (bilinear (zextR V) P Q : EReal) := by
  have y0 : (val_main_v136 (F := Ideal) x wd bd wom bom (ix5 b p q g k)).toInt.toNat = (lineIn ⌊P⌋).val := by
    rw [ref_y0, hP, lineAt_coe P hP1 hP2, clampAt_ofInt _ hP1 (by omega)]
  have y1 : (val_main_v147 (F := Ideal) x wd bd wom bom (ix5 b p q g k)).toInt.toNat = (lineIn (⌊P⌋ + 1)).val := by
    rw [ref_y1, hP, lineAt_coe P hP1 hP2, next_ofInt _ hP1 hP2, clampAt_ofInt _ (by omega) (by omega)]
  have x0 : (val_main_v107 (F := Ideal) x wd bd wom bom (ix5 b p q g k)).toInt.toNat = (lineIn ⌊Q⌋).val := by
    rw [ref_x0, hQ, lineAt_coe Q hQ1 hQ2, clampAt_ofInt _ hQ1 (by omega)]
  have x1 : (val_main_v118 (F := Ideal) x wd bd wom bom (ix5 b p q g k)).toInt.toNat = (lineIn (⌊Q⌋ + 1)).val := by
    rw [ref_x1, hQ, lineAt_coe Q hQ1 hQ2, next_ofInt _ hQ1 hQ2, clampAt_ofInt _ (by omega) (by omega)]
  rw [val_main_v197_apply, val_main_v196_apply, val_main_v195_apply,
    ref_corner00 x wv bv wd bd wom bom b p q g k r _ _ y0 x0, ref_corner01 x wv bv wd bd wom bom b p q g k r _ _ y0 x1,
    ref_corner10 x wv bv wd bd wom bom b p q g k r _ _ y1 x0, ref_corner11 x wv bv wd bd wom bom b p q g k r _ _ y1 x1,
    ref_yw0, ref_yw1, ref_xw0, ref_xw1, hP, hQ, hV, hV, hV, hV, lowAt_coe P hP1 hP2, lowAt_coe Q hQ1 hQ2, highAt_coe P hP1 hP2,
    highAt_coe Q hQ1 hQ2]
  simp only [← EReal.coe_mul, corner_eq]
  rfl

/-- The row of a point. -/
theorem ref_row (dy : ℝ) (h : omAt x wd bd wom bom b p q ⟨27 * g.val + 2 * k.val + 1, by omega⟩ = (dy : EReal)) :
    val_main_v94 (F := Ideal) x wd bd wom bom (ix5 b p q g k) = ((((p.val + (k.val / 3 : ℕ) - 1 : ℤ) : ℝ) + dy : ℝ) : EReal) := by
  have e : val_main_v94 (F := Ideal) x wd bd wom bom (ix5 b p q g k)
      = val_main_v93 (F := Ideal) (ix5 b p q g k) + (val_main_v89 (F := Ideal) (ix5 b p q g k) + val_main_v87 (F := Ideal) x wd bd wom bom (ix5 b p q g k)) * 1 := by
    rw [val_main_v94_apply, val_main_v92_apply, val_main_v90_apply, val_main_v91_apply, val_main_cst_3_apply]
    refine congrArg (fun z => _ + _ * z) Ideal.ofBits_one_f32
  have h63 := (ref_off x wd bd wom bom b p q g k 1).trans ((ref_om x wd bd wom bom b p q _).trans h)
  rw [e, ref_v93, ref_v89, ref_v72, ref_v87, h63, mul_one, ← EReal.coe_one, ← EReal.coe_sub, ← EReal.coe_add, ← EReal.coe_add]
  congr 1
  simp only [Int.cast_sub, Int.cast_add, Int.cast_natCast, Int.cast_one]
  ring

/-- The column of a point. -/
theorem ref_col (dx : ℝ) (h : omAt x wd bd wom bom b p q ⟨27 * g.val + 2 * k.val + 0, by omega⟩ = (dx : EReal)) :
    val_main_v85 (F := Ideal) x wd bd wom bom (ix5 b p q g k) = ((((q.val + (k.val % 3 : ℕ) - 1 : ℤ) : ℝ) + dx : ℝ) : EReal) := by
  have e : val_main_v85 (F := Ideal) x wd bd wom bom (ix5 b p q g k)
      = val_main_v84 (F := Ideal) (ix5 b p q g k) + (val_main_v80 (F := Ideal) (ix5 b p q g k) + val_main_v78 (F := Ideal) x wd bd wom bom (ix5 b p q g k)) * 1 := by
    rw [val_main_v85_apply, val_main_v83_apply, val_main_v81_apply, val_main_v82_apply, val_main_cst_2_apply]
    refine congrArg (fun z => _ + _ * z) Ideal.ofBits_one_f32
  have h63 := (ref_off x wd bd wom bom b p q g k 0).trans ((ref_om x wd bd wom bom b p q _).trans h)
  rw [e, ref_v84, ref_v80, ref_v76, ref_v78, h63, mul_one, ← EReal.coe_one, ← EReal.coe_sub, ← EReal.coe_add, ← EReal.coe_add]
  congr 1
  simp only [Int.cast_sub, Int.cast_add, Int.cast_natCast, Int.cast_one]
  ring

end Cert.Dcn

end
-- ==== Proof.Dcn.RefResult.lean ====
/- The reference's result: the same stencil, when values and masks are real and offsets are at most one pixel. -/
module

public import proofs.«01_k».proof.Proof.Dcn.RefSample

@[expose] public section

noncomputable section

namespace Cert.Dcn

open Cert.ReferenceIdeal Cert.ReferenceIdeal.Gen Cert.ReferenceIdeal.Read Idealize.ShloMosaic Idealize.ShloMosaic.TcCoe

set_option maxRecDepth 16384

variable (x : Vec Ideal S2x64x384x384 .f32) (wv : Vec Ideal S64x64 .f32) (bv : Vec Ideal S64 .f32) (wd : Vec Ideal S64x1x3x3 .f32)
  (bd : Vec Ideal S64 .f32) (wom : Vec Ideal S64x112 .f32) (bom : Vec Ideal S112 .f32)

variable (wo : Vec Ideal S64x64 .f32) (b : Fin 2) (p q : Fin 384) (g : Fin 4) (k : Fin 9) (r : Fin 16)

/-- A coordinate within one pixel of a grid line near the image has its floor near the image. -/
theorem floor_near (n : ℤ) (d : ℝ) (h1 : -1 ≤ d) (h2 : d ≤ 1) (hn1 : -1 ≤ n) (hn2 : n ≤ 390) : -3 ≤ ⌊(n : ℝ) + d⌋ ∧ ⌊(n : ℝ) + d⌋ ≤ 400 := by
  rw [Int.floor_intCast_add]
  have a1 : -1 ≤ ⌊d⌋ := Int.le_floor.2 (by push_cast; exact h1)
  have a2 : ⌊d⌋ ≤ 1 := Int.cast_le.1 ((Int.floor_le d).trans (h2.trans (le_of_eq Int.cast_one.symm)))
  omega

/-- One point's contribution, over the reals: its mask times the sum over the nine neighbours with the hat weights. -/
theorem ref_point (V : Fin 384 → Fin 384 → ℝ) (hV : ∀ m n, val_main_v5 (F := Ideal) x wv bv (ix5 b m n g r) = (V m n : EReal))
    (dy dx mk : ℝ) (hdy : omAt x wd bd wom bom b p q ⟨27 * g.val + 2 * k.val + 1, by omega⟩ = (dy : EReal))
    (hdx : omAt x wd bd wom bom b p q ⟨27 * g.val + 2 * k.val + 0, by omega⟩ = (dx : EReal))
    (hmk : omAt x wd bd wom bom b p q ⟨27 * g.val + 18 + k.val, by omega⟩ = (mk : EReal))
    (y1 : -1 ≤ dy) (y2 : dy ≤ 1) (x1 : -1 ≤ dx) (x2 : dx ≤ 1) :
    val_main_v200 (F := Ideal) x wv bv wd bd wom bom (ix6 b p q g k r)
      = ((∑ s : Fin 3, ∑ t : Fin 3, mk * hatR s dy * hatR t dx
          * zextR V (p.val + (k.val / 3 : ℕ) + s.val - 2) (q.val + (k.val % 3 : ℕ) + t.val - 2) : ℝ) : EReal) := by
  have hP := ref_row x wd bd wom bom b p q g k dy hdy
  have hQ := ref_col x wd bd wom bom b p q g k dx hdx
  obtain ⟨a1, a2⟩ := floor_near (p.val + (k.val / 3 : ℕ) - 1) dy y1 y2 (by omega) (by omega)
  obtain ⟨b1, b2⟩ := floor_near (q.val + (k.val % 3 : ℕ) - 1) dx x1 x2 (by omega) (by omega)
  have hS := ref_sample x wv bv wd bd wom bom b p q g k r V hV _ _ hP hQ a1 a2 b1 b2
  rw [bilinear_eq (zextR V) _ _ dy dx y1 y2 x1 x2] at hS
  have hM : val_main_v199 (F := Ideal) x wd bd wom bom (ix6 b p q g k r) = (mk : EReal) := by
    rw [← hmk, ← ref_om, ← ref_mask]
    unfold val_main_v199 val_main_v198
    generalize val_main_v64 (F := Ideal) x wd bd wom bom = y
    pointwise
  rw [val_main_v200_apply, hS, hM]
  refine (EReal.coe_mul _ _).symm.trans (congrArg _ ?_)
  rw [Finset.sum_mul]
  refine Finset.sum_congr rfl fun s _ => ?_
  rw [Finset.sum_mul]
  refine Finset.sum_congr rfl fun t _ => ?_
  have ep : (p.val + (k.val / 3 : ℕ) - 1 + s.val - 1 : ℤ) = p.val + (k.val / 3 : ℕ) + s.val - 2 := by omega
  have eq : (q.val + (k.val % 3 : ℕ) - 1 + t.val - 1 : ℤ) = q.val + (k.val % 3 : ℕ) + t.val - 2 := by omega
  rw [ep, eq]
  ring

/-- The coercion of a sum of three reals. -/
theorem coe_sum3 (f : Fin 3 → ℝ) : ((∑ i, f i : ℝ) : EReal) = ∑ i, (f i : EReal) := by
  simp only [Fin.sum_univ_succ, Fin.sum_univ_zero, EReal.coe_add, EReal.coe_zero]

/-- A sum over nine points, row by row. -/
theorem sum_nine (f : Fin 9 → EReal) : ∑ k : Fin 9, f k = ∑ ky : Fin 3, ∑ kx : Fin 3, f ⟨3 * ky.val + kx.val, by omega⟩ := by
  simp only [Fin.sum_univ_succ, Fin.sum_univ_zero, add_zero]
  simp only [add_assoc]
  rfl

/-- The stencil reads only its group's channels. -/
theorem stencil_congr (o o' : Fin 112 → EReal) (N : Fin 5 → Fin 5 → EReal)
    (h1 : ∀ j : Fin 18, o ⟨27 * g.val + j.val, by omega⟩ = o' ⟨27 * g.val + j.val, by omega⟩)
    (h2 : ∀ k : Fin 9, o ⟨27 * g.val + 18 + k.val, by omega⟩ = o' ⟨27 * g.val + 18 + k.val, by omega⟩) :
    stencilAt o g N = stencilAt o' g N := by
  have t : ∀ ky sy kx sx, termAt o g ky sy kx sx = termAt o' g ky sy kx sx := fun ky sy kx sx => by
    unfold termAt
    have a := h1 ⟨2 * (3 * ky.val + kx.val) + 1, by omega⟩
    have b := h1 ⟨2 * (3 * ky.val + kx.val), by omega⟩
    have c := h2 ⟨3 * ky.val + kx.val, by omega⟩
    exact congrArg₂ (· * ·) (congrArg₂ (· * ·) c (congrArg (hatAt sy) a)) (congrArg (hatAt sx) b)
  unfold stencilAt weightAt
  simp only [t]

/-- The reference's sum over the nine points is the stencil. -/
theorem ref_mixed (hv : ∀ c p q, ∃ r : ℝ, valueAt x wv bv b c p q = r)
    (ho : ∀ j : Fin 18, ∃ r : ℝ, omAt x wd bd wom bom b p q ⟨27 * g.val + j.val, by omega⟩ = r ∧ -1 ≤ r ∧ r ≤ 1)
    (hm : ∀ k : Fin 9, ∃ r : ℝ, omAt x wd bd wom bom b p q ⟨27 * g.val + 18 + k.val, by omega⟩ = r) :
    val_main_v201 (F := Ideal) x wv bv wd bd wom bom (ix5 b p q g r)
      = mixedAt x wv bv wd bd wom bom b ⟨16 * g.val + r.val, by omega⟩ p q := by
  obtain ⟨o, eo⟩ : ∃ o : Fin 112 → ℝ, ∀ n, o n = (omAt x wd bd wom bom b p q n).toReal := ⟨_, fun _ => rfl⟩
  choose V eV using fun m n => hv ⟨16 * g.val + r.val, by omega⟩ m n
  have oj : ∀ j : Fin 18, omAt x wd bd wom bom b p q ⟨27 * g.val + j.val, by omega⟩ = (o ⟨27 * g.val + j.val, by omega⟩ : EReal)
      ∧ -1 ≤ o ⟨27 * g.val + j.val, by omega⟩ ∧ o ⟨27 * g.val + j.val, by omega⟩ ≤ 1 := fun j => by
    obtain ⟨d, e, h⟩ := ho j
    rw [eo, e, EReal.toReal_coe]
    exact ⟨rfl, h⟩
  have om : ∀ k : Fin 9, omAt x wd bd wom bom b p q ⟨27 * g.val + 18 + k.val, by omega⟩ = (o ⟨27 * g.val + 18 + k.val, by omega⟩ : EReal) := fun k => by
    obtain ⟨d, e⟩ := hm k
    rw [eo, e, EReal.toReal_coe]
  have hV : ∀ m n, val_main_v5 (F := Ideal) x wv bv (ix5 b m n g r) = (V m n : EReal) := fun m n => by
    rw [ref_v5, ref_v4, eV]
  have hg : groupOf ⟨16 * g.val + r.val, by omega⟩ = g := Fin.ext (by show (16 * g.val + r.val) / 16 = g.val; omega)
  have hN : nearAt (valueAt x wv bv b ⟨16 * g.val + r.val, by omega⟩) p q
      = fun v u => (zextR V (p.val + v.val - 2) (q.val + u.val - 2) : EReal) := by
    funext v u
    unfold nearAt
    rw [← zext_coe]
    exact congrArg (fun f => zext f _ _) (funext fun m => funext fun n => eV m n)
  unfold mixedAt
  rw [hg, hN, stencil_congr g _ (fun n => (o n : EReal)) _ (fun j => (oj j).1) om, stencil_coe, val_main_v201_apply]
  have e0 : val_main_cst_23 (F := Ideal) (Shape.Idx.first h_S_) = 0 := Ideal.ofBits_zero_f32
  rw [e0, zero_add, sum_nine]
  simp only [coe_sum3]
  refine Finset.sum_congr rfl fun ky _ => Finset.sum_congr rfl fun kx _ => ?_
  have hi : idx_main_v201 (ix5 b p q g r) ⟨3 * ky.val + kx.val, by omega⟩ = ix6 b p q g ⟨3 * ky.val + kx.val, by omega⟩ r := by
    funext a
    match a with
    | ⟨0, _⟩ => rfl
    | ⟨1, _⟩ => rfl
    | ⟨2, _⟩ => rfl
    | ⟨3, _⟩ => rfl
    | ⟨4, _⟩ => rfl
    | ⟨5, _⟩ => rfl
  have jy := oj ⟨2 * (3 * ky.val + kx.val) + 1, by omega⟩
  have jx := oj ⟨2 * (3 * ky.val + kx.val), by omega⟩
  rw [hi, ref_point x wv bv wd bd wom bom b p q g ⟨3 * ky.val + kx.val, by omega⟩ r V hV _ _ _ jy.1 jx.1 (om ⟨3 * ky.val + kx.val, by omega⟩) jy.2.1 jy.2.2 jx.2.1 jx.2.2]
  simp only [coe_sum3]
  refine Finset.sum_congr rfl fun s _ => Finset.sum_congr rfl fun t _ => ?_
  have d1 : (3 * ky.val + kx.val) / 3 = ky.val := by omega
  have d2 : (3 * ky.val + kx.val) % 3 = kx.val := by omega
  have ep : (p.val + ((3 * ky.val + kx.val) / 3 : ℕ) + s.val - 2 : ℤ) = p.val + ((ky.val + s.val : ℕ) : ℤ) - 2 := by rw [d1]; omega
  have eq : (q.val + ((3 * ky.val + kx.val) % 3 : ℕ) + t.val - 2 : ℤ) = q.val + ((kx.val + t.val : ℕ) : ℤ) - 2 := by rw [d2]; omega
  exact congrArg _ (congrArg _ (congrArg₂ (zextR V) ep eq))

/-- The reference's result. -/
theorem ref_result (c : Fin 64) (hv : ∀ c p q, ∃ r : ℝ, valueAt x wv bv b c p q = r)
    (ho : ∀ (g : Fin 4) (j : Fin 18), ∃ r : ℝ, omAt x wd bd wom bom b p q ⟨27 * g.val + j.val, by omega⟩ = r ∧ -1 ≤ r ∧ r ≤ 1)
    (hm : ∀ (g : Fin 4) (k : Fin 9), ∃ r : ℝ, omAt x wd bd wom bom b p q ⟨27 * g.val + 18 + k.val, by omega⟩ = r) :
    val_main_v204 (F := Ideal) x wv bv wd bd wom bom wo (ix4 b c p q) = resultAt x wv bv wd bd wom bom wo b c p q := by
  have e : val_main_v204 (F := Ideal) x wv bv wd bd wom bom wo (ix4 b c p q)
      = ∑ k : Fin 64, val_main_v201 (F := Ideal) x wv bv wd bd wom bom (ix5 b p q ⟨k.val / 16, by omega⟩ ⟨k.val % 16, by omega⟩) * wo (ix2 k c) := by
    unfold val_main_v204 val_main_v203 val_main_v202
    generalize val_main_v201 (F := Ideal) x wv bv wd bd wom bom = y
    pointwise
  rw [e]
  unfold resultAt
  refine Finset.sum_congr rfl fun k _ => ?_
  have ek : (⟨16 * (k.val / 16) + k.val % 16, by omega⟩ : Fin 64) = k := Fin.ext (by show 16 * (k.val / 16) + k.val % 16 = k.val; omega)
  rw [ref_mixed x wv bv wd bd wom bom b p q ⟨k.val / 16, by omega⟩ ⟨k.val % 16, by omega⟩ hv (ho _) (hm _), mul_comm]
  exact congrArg (fun n => wo (ix2 k c) * mixedAt x wv bv wd bd wom bom b n p q) ek

end Cert.Dcn

end
-- ==== Proof.Dcn.Precond.lean ====
/- What the precondition says: real values and masks, offsets of at most one pixel. -/
module

public import proofs.«01_k».proof.Pre_offsets_within_one_pixel
public import proofs.«01_k».proof.Proof.Dcn.RefConv
public import proofs.«01_k».proof.Proof.Dcn.RefCoords

@[expose] public section

noncomputable section

namespace Cert.Dcn

open Cert.ReferenceIdeal Cert.ReferenceIdeal.Gen Cert.ReferenceIdeal.Read Idealize.ShloMosaic Idealize.ShloMosaic.TcCoe

set_option maxRecDepth 16384

variable (x : Vec Ideal S2x64x384x384 .f32) (wv : Vec Ideal S64x64 .f32) (bv : Vec Ideal S64 .f32) (wd : Vec Ideal S64x1x3x3 .f32)
  (bd : Vec Ideal S64 .f32) (wom : Vec Ideal S64x112 .f32) (bom : Vec Ideal S112 .f32)

/-- The side conditions of the precondition's operations. -/
theorem preFacts : Cert.Pre_offsets_within_one_pixel.Facts where
  transposes_S2x64x384x384_S2x384x384x64_0_2_3_1 := Cert.ReferenceIdeal.Gen.transposes_S2x64x384x384_S2x384x384x64_0_2_3_1
  bcast_S64_S1x1x1x64_3 := Cert.ReferenceIdeal.Gen.bcast_S64_S1x1x1x64_3
  bcast_S1x1x1x64_S2x384x384x64_0_1_2_3 := Cert.ReferenceIdeal.Gen.bcast_S1x1x1x64_S2x384x384x64_0_1_2_3
  pads_S2x64x384x384_S2x64x386x386_000_000_110_110 := Cert.ReferenceIdeal.Gen.pads_S2x64x384x384_S2x64x386x386_000_000_110_110
  h_S_ := Cert.ReferenceIdeal.Gen.h_S_
  shapeCasts_S64x1x3x3_S1x64x3x3 := Cert.ReferenceIdeal.Gen.shapeCasts_S64x1x3x3_S1x64x3x3
  bcast_S64_S1x64x1x1_1 := Cert.ReferenceIdeal.Gen.bcast_S64_S1x64x1x1_1
  slices_S2x64x386x386_S2x64x384x384_0_0_0_0 := Cert.ReferenceIdeal.Gen.slices_S2x64x386x386_S2x64x384x384_0_0_0_0
  slices_S1x64x3x3_S1x64x1x1_0_0_0_0 := Cert.ReferenceIdeal.Gen.slices_S1x64x3x3_S1x64x1x1_0_0_0_0
  bcast_S1x64x1x1_S2x64x384x384_0_1_2_3 := Cert.ReferenceIdeal.Gen.bcast_S1x64x1x1_S2x64x384x384_0_1_2_3
  slices_S2x64x386x386_S2x64x384x384_0_0_0_1 := Cert.ReferenceIdeal.Gen.slices_S2x64x386x386_S2x64x384x384_0_0_0_1
  slices_S1x64x3x3_S1x64x1x1_0_0_0_1 := Cert.ReferenceIdeal.Gen.slices_S1x64x3x3_S1x64x1x1_0_0_0_1
  slices_S2x64x386x386_S2x64x384x384_0_0_0_2 := Cert.ReferenceIdeal.Gen.slices_S2x64x386x386_S2x64x384x384_0_0_0_2
  slices_S1x64x3x3_S1x64x1x1_0_0_0_2 := Cert.ReferenceIdeal.Gen.slices_S1x64x3x3_S1x64x1x1_0_0_0_2
  slices_S2x64x386x386_S2x64x384x384_0_0_1_0 := Cert.ReferenceIdeal.Gen.slices_S2x64x386x386_S2x64x384x384_0_0_1_0
  slices_S1x64x3x3_S1x64x1x1_0_0_1_0 := Cert.ReferenceIdeal.Gen.slices_S1x64x3x3_S1x64x1x1_0_0_1_0
  slices_S2x64x386x386_S2x64x384x384_0_0_1_1 := Cert.ReferenceIdeal.Gen.slices_S2x64x386x386_S2x64x384x384_0_0_1_1
  slices_S1x64x3x3_S1x64x1x1_0_0_1_1 := Cert.ReferenceIdeal.Gen.slices_S1x64x3x3_S1x64x1x1_0_0_1_1
  slices_S2x64x386x386_S2x64x384x384_0_0_1_2 := Cert.ReferenceIdeal.Gen.slices_S2x64x386x386_S2x64x384x384_0_0_1_2
  slices_S1x64x3x3_S1x64x1x1_0_0_1_2 := Cert.ReferenceIdeal.Gen.slices_S1x64x3x3_S1x64x1x1_0_0_1_2
  slices_S2x64x386x386_S2x64x384x384_0_0_2_0 := Cert.ReferenceIdeal.Gen.slices_S2x64x386x386_S2x64x384x384_0_0_2_0
  slices_S1x64x3x3_S1x64x1x1_0_0_2_0 := Cert.ReferenceIdeal.Gen.slices_S1x64x3x3_S1x64x1x1_0_0_2_0
  slices_S2x64x386x386_S2x64x384x384_0_0_2_1 := Cert.ReferenceIdeal.Gen.slices_S2x64x386x386_S2x64x384x384_0_0_2_1
  slices_S1x64x3x3_S1x64x1x1_0_0_2_1 := Cert.ReferenceIdeal.Gen.slices_S1x64x3x3_S1x64x1x1_0_0_2_1
  slices_S2x64x386x386_S2x64x384x384_0_0_2_2 := Cert.ReferenceIdeal.Gen.slices_S2x64x386x386_S2x64x384x384_0_0_2_2
  slices_S1x64x3x3_S1x64x1x1_0_0_2_2 := Cert.ReferenceIdeal.Gen.slices_S1x64x3x3_S1x64x1x1_0_0_2_2
  bcast_S112_S1x1x1x112_3 := Cert.ReferenceIdeal.Gen.bcast_S112_S1x1x1x112_3
  bcast_S1x1x1x112_S2x384x384x112_0_1_2_3 := Cert.ReferenceIdeal.Gen.bcast_S1x1x1x112_S2x384x384x112_0_1_2_3
  slices_S2x384x384x112_S2x384x384x108_0_0_0_0 := Cert.ReferenceIdeal.Gen.slices_S2x384x384x112_S2x384x384x108_0_0_0_0
  shapeCasts_S2x384x384x108_S2x384x384x4x27 := Cert.ReferenceIdeal.Gen.shapeCasts_S2x384x384x108_S2x384x384x4x27
  bcast_S_S2x384x384x64 := by decide
  slices_S2x384x384x4x27_S2x384x384x4x18_0_0_0_0_0 := Cert.ReferenceIdeal.Gen.slices_S2x384x384x4x27_S2x384x384x4x18_0_0_0_0_0
  bcast_S_S2x384x384x4x18 := by decide
  slices_S2x384x384x4x27_S2x384x384x4x9_0_0_0_0_18 := Cert.ReferenceIdeal.Gen.slices_S2x384x384x4x27_S2x384x384x4x9_0_0_0_0_18
  bcast_S_S2x384x384x4x9 := Cert.ReferenceIdeal.Gen.bcast_S_S2x384x384x4x9
  dot_S2x384x384x64_S64x64_S2x384x384x64_3_0_012_1_n_n_wf := Cert.ReferenceIdeal.Gen.dot_S2x384x384x64_S64x64_S2x384x384x64_3_0_012_1_n_n_wf
  dot_S2x384x384x64_S64x112_S2x384x384x112_3_0_012_1_n_n_wf := Cert.ReferenceIdeal.Gen.dot_S2x384x384x64_S64x112_S2x384x384x112_3_0_012_1_n_n_wf

variable (wo : Vec Ideal S64x64 .f32)

/-- The first array of the precondition. -/
theorem pre_value : (@Cert.Pre_offsets_within_one_pixel.fn preFacts Ideal _ x wv bv wd bd wom bom wo).1
    = cmpf .olt (Host.absf (F := Ideal) (φ := .f32) (val_main_v4 (F := Ideal) x wv bv)) (broadcastInDim S2x384x384x64 ![] preFacts.bcast_S_S2x384x384x64 (constant (F := Ideal) S_ .f32 0x7F800000#32)) := rfl

/-- The second array of the precondition. -/
theorem pre_offset : (@Cert.Pre_offsets_within_one_pixel.fn preFacts Ideal _ x wv bv wd bd wom bom wo).2.1
    = cmpf .ole (Host.absf (F := Ideal) (φ := .f32) (val_main_v62 (F := Ideal) x wd bd wom bom)) (broadcastInDim S2x384x384x4x18 ![] preFacts.bcast_S_S2x384x384x4x18 (constant (F := Ideal) S_ .f32 0x3F800000#32)) := rfl

/-- The third array of the precondition. -/
theorem pre_mask : (@Cert.Pre_offsets_within_one_pixel.fn preFacts Ideal _ x wv bv wd bd wom bom wo).2.2
    = cmpf .olt (Host.absf (F := Ideal) (φ := .f32) (val_main_v64 (F := Ideal) x wd bd wom bom)) (broadcastInDim S2x384x384x4x9 ![] preFacts.bcast_S_S2x384x384x4x9 (constant (F := Ideal) S_ .f32 0x7F800000#32)) := rfl

/-- Of absolute value below infinity: a real number. -/
theorem real_of_olt (v : EReal) (h : FloatOps.cmpf (F := Ideal) (φ := .f32) .olt (FloatOps.hostAbsf (F := Ideal) (φ := .f32) v) (FloatOps.ofBits .f32 0x7F800000#32) = 1#1) :
    ∃ r : ℝ, v = r := by
  have top : Ideal.ofBits .f32 0x7F800000#32 = ⊤ := by simp [Ideal.ofBits, Ideal.ieee]
  have h' : Ideal.cmp .olt (max v (-v)) (Ideal.ofBits .f32 0x7F800000#32) = 1#1 := h
  rw [top] at h'
  induction v using EReal.rec with
  | bot => simp [Ideal.cmp] at h'
  | top => simp [Ideal.cmp] at h'
  | coe r => exact ⟨r, rfl⟩

/-- Of absolute value at most one: a real number of absolute value at most one. -/
theorem real_of_ole (v : EReal) (h : FloatOps.cmpf (F := Ideal) (φ := .f32) .ole (FloatOps.hostAbsf (F := Ideal) (φ := .f32) v) (FloatOps.ofBits .f32 0x3F800000#32) = 1#1) :
    ∃ r : ℝ, v = r ∧ -1 ≤ r ∧ r ≤ 1 := by
  have h' : Ideal.cmp .ole (max v (-v)) (Ideal.ofBits .f32 0x3F800000#32) = 1#1 := h
  rw [Ideal.ofBits_one_f32] at h'
  have hle : max v (-v) ≤ 1 := by
    by_contra hn
    simp [Ideal.cmp, hn] at h'
  induction v using EReal.rec with
  | bot => simp at hle; exact absurd hle (EReal.coe_ne_top 1)
  | top => simp at hle; exact absurd hle (EReal.coe_ne_top 1)
  | coe r =>
    have h1 := (max_le_iff.1 hle).1
    have h2 := (max_le_iff.1 hle).2
    refine ⟨r, rfl, ?_, ?_⟩
    · have h3 : ((-r : ℝ) : EReal) ≤ ((1 : ℝ) : EReal) := h2
      have := EReal.coe_le_coe_iff.1 h3
      linarith
    · have h3 : (r : EReal) ≤ ((1 : ℝ) : EReal) := h1
      exact EReal.coe_le_coe_iff.1 h3

/-- The offsets of a group among the predictor's channels. -/
theorem ref_offsets (b : Fin 2) (p q : Fin 384) (g : Fin 4) (j : Fin 18) :
    val_main_v62 (F := Ideal) x wd bd wom bom (ix5 b p q g j)
      = val_main_v59 (F := Ideal) x wd bd wom bom (ix4 b p q ⟨27 * g.val + j.val, by omega⟩) := by
  unfold val_main_v62 val_main_v61 val_main_v60
  generalize val_main_v59 (F := Ideal) x wd bd wom bom = y
  pointwise
  exact congrArg (fun n => y (ix4 b p q n)) (Fin.ext (by show g.val * 27 + j.val = 27 * g.val + j.val; omega))

/-- Every value is real. -/
theorem real_value (h : (@Cert.Pre_offsets_within_one_pixel.fn preFacts Ideal _ x wv bv wd bd wom bom wo).1 = (fun _ => 1#1))
    (b : Fin 2) (c : Fin 64) (p q : Fin 384) : ∃ r : ℝ, valueAt x wv bv b c p q = r := by
  rw [pre_value] at h
  rw [← ref_v4]
  exact real_of_olt (val_main_v4 (F := Ideal) x wv bv (ix4 b p q c)) (congrFun h (ix4 b p q c))

/-- Every offset is real and of at most one pixel. -/
theorem real_offset (h : (@Cert.Pre_offsets_within_one_pixel.fn preFacts Ideal _ x wv bv wd bd wom bom wo).2.1 = (fun _ => 1#1))
    (b : Fin 2) (p q : Fin 384) (g : Fin 4) (j : Fin 18) :
    ∃ r : ℝ, omAt x wd bd wom bom b p q ⟨27 * g.val + j.val, by omega⟩ = r ∧ -1 ≤ r ∧ r ≤ 1 := by
  rw [pre_offset] at h
  rw [← ref_om, ← ref_offsets]
  exact real_of_ole (val_main_v62 (F := Ideal) x wd bd wom bom (ix5 b p q g j)) (congrFun h (ix5 b p q g j))

/-- Every mask is real. -/
theorem real_mask (h : (@Cert.Pre_offsets_within_one_pixel.fn preFacts Ideal _ x wv bv wd bd wom bom wo).2.2 = (fun _ => 1#1))
    (b : Fin 2) (p q : Fin 384) (g : Fin 4) (k : Fin 9) :
    ∃ r : ℝ, omAt x wd bd wom bom b p q ⟨27 * g.val + 18 + k.val, by omega⟩ = r := by
  rw [pre_mask] at h
  rw [← ref_om, ← ref_mask]
  exact real_of_olt (val_main_v64 (F := Ideal) x wd bd wom bom (ix5 b p q g k)) (congrFun h (ix5 b p q g k))

end Cert.Dcn

end
-- ==== Proof.Dcn.RefArray.lean ====
/- The reference's whole array under the precondition. -/
module

public import proofs.«01_k».proof.Proof.Dcn.RefResult
public import proofs.«01_k».proof.Proof.Dcn.Precond

@[expose] public section

noncomputable section

namespace Cert.Dcn

open Cert.ReferenceIdeal Cert.ReferenceIdeal.Gen Cert.ReferenceIdeal.Read Idealize.ShloMosaic Idealize.ShloMosaic.TcCoe

set_option maxRecDepth 16384

variable (x : Vec Ideal S2x64x384x384 .f32) (wv : Vec Ideal S64x64 .f32) (bv : Vec Ideal S64 .f32) (wd : Vec Ideal S64x1x3x3 .f32)
  (bd : Vec Ideal S64 .f32) (wom : Vec Ideal S64x112 .f32) (bom : Vec Ideal S112 .f32)

variable (wo : Vec Ideal S64x64 .f32)

/-- Under the precondition the reference's array is the one the kernel leaves. -/
theorem ref_array (h : (@Cert.Pre_offsets_within_one_pixel.fn preFacts Ideal _ x wv bv wd bd wom bom wo).1 = (fun _ => 1#1)
      ∧ (@Cert.Pre_offsets_within_one_pixel.fn preFacts Ideal _ x wv bv wd bd wom bom wo).2.1 = (fun _ => 1#1)
      ∧ (@Cert.Pre_offsets_within_one_pixel.fn preFacts Ideal _ x wv bv wd bd wom bom wo).2.2 = (fun _ => 1#1)) :
    val_main_v204 (F := Ideal) x wv bv wd bd wom bom wo
      = fun i => resultAt x wv bv wd bd wom bom wo (i 0) (i 1) (i 2) (i 3) := by
  funext i
  obtain ⟨b, c, p, q, rfl⟩ : ∃ (b : Fin 2) (c : Fin 64) (p q : Fin 384), i = ix4 b c p q := ⟨i 0, i 1, i 2, i 3, eq_ix4 i⟩
  exact ref_result x wv bv wd bd wom bom wo b p q c (real_value x wv bv wd bd wom bom wo h.1 b)
    (real_offset x wv bv wd bd wom bom wo h.2.1 b p q) (real_mask x wv bv wd bd wom bom wo h.2.2 b p q)

end Cert.Dcn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.ReferenceIdeal.Run
public import proofs.«01_k».proof.Proof.Dcn.Blocks
public import proofs.«01_k».proof.Proof.Dcn.RefArray
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's frame: its generated run, read at the arguments; it declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run m ρ)

/-- The kernel and the reference leave the same array. -/
theorem same_result : Cert.algebraic_KernelIdeal_ReferenceIdeal_pre_offsets_within_one_pixel
    (hPre_offsets_within_one_pixel := Cert.Dcn.preFacts) := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  refine (Cert.ReferenceIdeal.Read.val_main_v204_eq (F := Ideal) (StableHlo.launchContents m' c)).trans ?_
  repeat rw [StableHlo.launchContents_devRef]
  rw [e0, e1, e2, e3, e4, e5, e6, e7]
  exact (Cert.Dcn.ref_array _ _ _ _ _ _ _ _ (hpre c)).trans (Cert.Dcn.array_eq m c).symm

theorem claim : Cert.Claim := ⟨Cert.Kernel.Gen.facts, Cert.KernelIdeal.Gen.facts, Cert.ReferenceIdeal.Gen.facts, Cert.Dcn.preFacts,
  fun m ρ _ => Cert.Kernel.Gen.frame m ρ, fun m ρ _ => Cert.KernelIdeal.Gen.frame m ρ, fun m ρ _ => Cert.KernelIdeal.Gen.frame m ρ,
  frame_ri, fun m ρ _ => frame_ri m ρ trivial, trivial, same_result⟩

end Cert.Proof

end
